-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel) (hPre_sorted_ids := hPre_sorted_ids)
    ∧ quiescent_KernelIdeal (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal (hKernelIdeal := hKernelIdeal) (hReferenceIdeal := hReferenceIdeal) (hPre_sorted_ids := hPre_sorted_ids)
-- ==== Pre_sorted_ids.lean ====
abbrev S10000x128 : Shape := ⟨2, ![10000, 128]⟩
abbrev S10000x32 : Shape := ⟨2, ![10000, 32]⟩
abbrev S10000 : Shape := ⟨1, ![10000]⟩
abbrev S32x8 : Shape := ⟨2, ![32, 8]⟩
abbrev S128x128 : Shape := ⟨2, ![128, 128]⟩
abbrev S128 : Shape := ⟨1, ![128]⟩
abbrev S128x8 : Shape := ⟨2, ![128, 8]⟩
abbrev S9999 : Shape := ⟨1, ![9999]⟩
abbrev S1 : Shape := ⟨1, ![1]⟩
abbrev S_ : Shape := ⟨0, ![]⟩

class Facts : Prop where
  slices_S10000_S9999_1 : S10000.Slices ![1] S9999
  slices_S10000_S1_9999 : S10000.Slices ![9999] S1
  concatenates_S9999_S1_S10000_d0 : Shape.Concatenates [S9999, S1] S10000 0
  bcast_S_S10000 : S_.BroadcastsInDim S10000 (![] : Fin 0 → Fin S10000.rank)

variable [Facts]

def fn {F : FTy → Type} [FloatOps F] (main_arg0 : FVec F S10000x128 .f32) (main_arg1 : FVec F S10000x32 .f32) (main_arg2 : FVec F S10000x32 .f32) (main_arg3 : IVec S10000 32) (main_arg4 : FVec F S32x8 .f32) (main_arg5 : FVec F S128x128 .f32) (main_arg6 : FVec F S128x128 .f32) (main_arg7 : FVec F S128 .f32) (main_arg8 : FVec F S128 .f32) (main_arg9 : FVec F S128x8 .f32) (main_arg10 : FVec F S128x128 .f32) (main_arg11 : FVec F S128x128 .f32) : IVec S10000 1 :=
  let main_v0 : IVec S9999 32 := (extractStridedSlice S9999 ![1] · slices_S10000_S9999_1) main_arg3
  let main_v1 : IVec S1 32 := (extractStridedSlice S1 ![9999] · slices_S10000_S1_9999) main_arg3
  let main_v2 : IVec S10000 32 := (fun a b => concatenate S10000 0 [⟨S9999, a⟩, ⟨S1, b⟩] concatenates_S9999_S1_S10000_d0) main_v0 main_v1
  let main_c : IVec S_ 32 := constantI S_ 32 0#32
  let main_v3 : IVec S10000 32 := broadcastInDim S10000 ![] bcast_S_S10000 main_c
  let main_v4 : IVec S10000 1 := cmpi .sge main_arg3 main_v3
  let main_c_0 : IVec S_ 32 := constantI S_ 32 256#32
  let main_v5 : IVec S10000 32 := broadcastInDim S10000 ![] bcast_S_S10000 main_c_0
  let main_v6 : IVec S10000 1 := cmpi .slt main_arg3 main_v5
  let main_v7 : IVec S10000 1 := andi main_v4 main_v6
  let main_v8 : IVec S10000 1 := cmpi .sle main_arg3 main_v2
  let main_v9 : IVec S10000 1 := andi main_v7 main_v8
  main_v9
-- ==== Kernel.lean ====
abbrev S10000x128 : Shape := ⟨2, ![10000, 128]⟩
abbrev S10000x32 : Shape := ⟨2, ![10000, 32]⟩
abbrev S10000 : Shape := ⟨1, ![10000]⟩
abbrev S32x8 : Shape := ⟨2, ![32, 8]⟩
abbrev S128x128 : Shape := ⟨2, ![128, 128]⟩
abbrev S128 : Shape := ⟨1, ![128]⟩
abbrev S128x8 : Shape := ⟨2, ![128, 8]⟩
abbrev S25x1x400 : Shape := ⟨3, ![25, 1, 400]⟩
abbrev S25x400x1 : Shape := ⟨3, ![25, 400, 1]⟩
abbrev S25 : Shape := ⟨1, ![25]⟩
abbrev S_ : Shape := ⟨0, ![]⟩
abbrev S1x25 : Shape := ⟨2, ![1, 25]⟩
abbrev S2x25 : Shape := ⟨2, ![2, 25]⟩
abbrev S8x128 : Shape := ⟨2, ![8, 128]⟩
abbrev S32x128 : Shape := ⟨2, ![32, 128]⟩
abbrev S32x2x128 : Shape := ⟨3, ![32, 2, 128]⟩
abbrev S64x128 : Shape := ⟨2, ![64, 128]⟩
abbrev S64x1x128 : Shape := ⟨3, ![64, 1, 128]⟩
abbrev S1x128 : Shape := ⟨2, ![1, 128]⟩
abbrev S2048 : Shape := ⟨1, ![2048]⟩
abbrev S2048x1 : Shape := ⟨2, ![2048, 1]⟩
abbrev S64 : Shape := ⟨1, ![64]⟩
abbrev S1x64 : Shape := ⟨2, ![1, 64]⟩
abbrev S2048x64 : Shape := ⟨2, ![2048, 64]⟩
abbrev S64x1 : Shape := ⟨2, ![64, 1]⟩
abbrev S1x2048 : Shape := ⟨2, ![1, 2048]⟩
abbrev S64x2048 : Shape := ⟨2, ![64, 2048]⟩
abbrev S32x10000 : Shape := ⟨2, ![32, 10000]⟩
abbrev S32x25x400 : Shape := ⟨3, ![32, 25, 400]⟩
abbrev S25x32x400 : Shape := ⟨3, ![25, 32, 400]⟩
abbrev S400x128 : Shape := ⟨2, ![400, 128]⟩
abbrev S1x32x400 : Shape := ⟨3, ![1, 32, 400]⟩
abbrev S1x1x400 : Shape := ⟨3, ![1, 1, 400]⟩
abbrev S1x400x1 : Shape := ⟨3, ![1, 400, 1]⟩
abbrev S64x288x128 : Shape := ⟨3, ![64, 288, 128]⟩
abbrev S10000x64 : Shape := ⟨2, ![10000, 64]⟩
abbrev S400 : Shape := ⟨1, ![400]⟩
abbrev S400x1 : Shape := ⟨2, ![400, 1]⟩
abbrev S32x400 : Shape := ⟨2, ![32, 400]⟩
abbrev S64x400 : Shape := ⟨2, ![64, 400]⟩
abbrev S400x64 : Shape := ⟨2, ![400, 64]⟩
abbrev S2048x400 : Shape := ⟨2, ![2048, 400]⟩
abbrev S1x400 : Shape := ⟨2, ![1, 400]⟩
abbrev S1x1 : Shape := ⟨2, ![1, 1]⟩
abbrev S2048x128 : Shape := ⟨2, ![2048, 128]⟩
abbrev S64x32x128 : Shape := ⟨3, ![64, 32, 128]⟩
abbrev S400x2048 : Shape := ⟨2, ![400, 2048]⟩

abbrev nBuf : Space → Nat
  | .hbm => 241
  | .vmem => 24
  | .smem => 1
  | _ => 0

abbrev hbmTy0_0 (i : Nat) : BufTy := match i % 128 with
  | 0 => ⟨S10000x128, .f32⟩
  | 1 => ⟨S10000x32, .f32⟩
  | 2 => ⟨S10000x32, .f32⟩
  | 3 => ⟨S10000, .i32⟩
  | 4 => ⟨S32x8, .f32⟩
  | 5 => ⟨S128x128, .f32⟩
  | 6 => ⟨S128x128, .f32⟩
  | 7 => ⟨S128, .f32⟩
  | 8 => ⟨S128, .f32⟩
  | 9 => ⟨S128x8, .f32⟩
  | 10 => ⟨S128x128, .f32⟩
  | 11 => ⟨S128x128, .f32⟩
  | 12 => ⟨S25x1x400, .i32⟩
  | 13 => ⟨S25x400x1, .i32⟩
  | 14 => ⟨S25, .i32⟩
  | 15 => ⟨S_, .i32⟩
  | 16 => ⟨S_, .i32⟩
  | 17 => ⟨S25, .i32⟩
  | 18 => ⟨S25, .i32⟩
  | 19 => ⟨S25, .i32⟩
  | 20 => ⟨S_, .i32⟩
  | 21 => ⟨S25, .i32⟩
  | 22 => ⟨S25, .i1⟩
  | 23 => ⟨S25, .i32⟩
  | 24 => ⟨S25, .i32⟩
  | 25 => ⟨S_, .i32⟩
  | 26 => ⟨S25, .i32⟩
  | 27 => ⟨S25, .i1⟩
  | 28 => ⟨S25, .i1⟩
  | 29 => ⟨S_, .i32⟩
  | 30 => ⟨S25, .i32⟩
  | 31 => ⟨S25, .i32⟩
  | 32 => ⟨S25, .i32⟩
  | 33 => ⟨S_, .i32⟩
  | 34 => ⟨S25, .i32⟩
  | 35 => ⟨S25, .i32⟩
  | 36 => ⟨S25, .i32⟩
  | 37 => ⟨S1x25, .i32⟩
  | 38 => ⟨S1x25, .i32⟩
  | 39 => ⟨S8x128, .f32⟩
  | 40 => ⟨S32x128, .f32⟩
  | 41 => ⟨S32x2x128, .f32⟩
  | 42 => ⟨S64x128, .f32⟩
  | 43 => ⟨S64x1x128, .f32⟩
  | 44 => ⟨S1x128, .f32⟩
  | 45 => ⟨S1x128, .f32⟩
  | 46 => ⟨S2048, .i32⟩
  | 47 => ⟨S_, .i32⟩
  | 48 => ⟨S_, .i32⟩
  | 49 => ⟨S2048, .i32⟩
  | 50 => ⟨S2048, .i32⟩
  | 51 => ⟨S2048, .i32⟩
  | 52 => ⟨S_, .i32⟩
  | 53 => ⟨S2048, .i32⟩
  | 54 => ⟨S2048, .i1⟩
  | 55 => ⟨S2048, .i32⟩
  | 56 => ⟨S2048, .i32⟩
  | 57 => ⟨S_, .i32⟩
  | 58 => ⟨S2048, .i32⟩
  | 59 => ⟨S2048, .i1⟩
  | 60 => ⟨S2048, .i1⟩
  | 61 => ⟨S_, .i32⟩
  | 62 => ⟨S2048, .i32⟩
  | 63 => ⟨S2048, .i32⟩
  | 64 => ⟨S2048, .i32⟩
  | 65 => ⟨S_, .i32⟩
  | 66 => ⟨S_, .i32⟩
  | 67 => ⟨S2048, .i32⟩
  | 68 => ⟨S2048, .i32⟩
  | 69 => ⟨S2048, .i32⟩
  | 70 => ⟨S_, .i32⟩
  | 71 => ⟨S2048, .i32⟩
  | 72 => ⟨S2048, .i1⟩
  | 73 => ⟨S2048, .i32⟩
  | 74 => ⟨S2048, .i32⟩
  | 75 => ⟨S_, .i32⟩
  | 76 => ⟨S2048, .i32⟩
  | 77 => ⟨S2048, .i1⟩
  | 78 => ⟨S2048, .i1⟩
  | 79 => ⟨S_, .i32⟩
  | 80 => ⟨S2048, .i32⟩
  | 81 => ⟨S2048, .i32⟩
  | 82 => ⟨S2048, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S2048, .i32⟩
  | 90 => ⟨S2048, .i32⟩
  | 91 => ⟨S_, .i32⟩
  | 92 => ⟨S2048, .i32⟩
  | 93 => ⟨S2048, .i1⟩
  | 94 => ⟨S_, .i32⟩
  | 95 => ⟨S2048, .i32⟩
  | 96 => ⟨S2048, .i1⟩
  | 97 => ⟨S_, .i32⟩
  | 98 => ⟨S_, .i1⟩
  | 99 => ⟨S2048, .i1⟩
  | 100 => ⟨S2048, .i1⟩
  | 101 => ⟨S2048, .i1⟩
  | 102 => ⟨S2048, .i32⟩
  | 103 => ⟨S2048, .i32⟩
  | 104 => ⟨S2048, .i32⟩
  | 105 => ⟨S_, .i32⟩
  | 106 => ⟨S2048, .i32⟩
  | 107 => ⟨S2048, .i32⟩
  | 108 => ⟨S2048, .i32⟩
  | 109 => ⟨S2048x1, .i32⟩
  | 110 => ⟨S64, .i32⟩
  | 111 => ⟨S1x64, .i32⟩
  | 112 => ⟨S2048x64, .i32⟩
  | 113 => ⟨S2048x64, .i32⟩
  | 114 => ⟨S2048x64, .i1⟩
  | 115 => ⟨S2048x64, .bf16⟩
  | 116 => ⟨S2048, .i32⟩
  | 117 => ⟨S_, .i32⟩
  | 118 => ⟨S_, .i32⟩
  | 119 => ⟨S2048, .i32⟩
  | 120 => ⟨S2048, .i32⟩
  | 121 => ⟨S2048, .i32⟩
  | 122 => ⟨S_, .i32⟩
  | 123 => ⟨S2048, .i32⟩
  | 124 => ⟨S2048, .i1⟩
  | 125 => ⟨S2048, .i32⟩
  | 126 => ⟨S2048, .i32⟩
  | 127 => ⟨S_, .i32⟩
  | _ => ⟨S10000x128, .f32⟩

abbrev hbmTy0_1 (i : Nat) : BufTy := match i % 128 with
  | 0 => ⟨S2048, .i32⟩
  | 1 => ⟨S2048, .i1⟩
  | 2 => ⟨S2048, .i1⟩
  | 3 => ⟨S_, .i32⟩
  | 4 => ⟨S2048, .i32⟩
  | 5 => ⟨S2048, .i32⟩
  | 6 => ⟨S2048, .i32⟩
  | 7 => ⟨S_, .i32⟩
  | 8 => ⟨S2048, .i32⟩
  | 9 => ⟨S2048, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S2048, .i32⟩
  | 17 => ⟨S2048, .i32⟩
  | 18 => ⟨S_, .i32⟩
  | 19 => ⟨S2048, .i32⟩
  | 20 => ⟨S2048, .i1⟩
  | 21 => ⟨S_, .i32⟩
  | 22 => ⟨S2048, .i32⟩
  | 23 => ⟨S2048, .i1⟩
  | 24 => ⟨S_, .i32⟩
  | 25 => ⟨S_, .i1⟩
  | 26 => ⟨S2048, .i1⟩
  | 27 => ⟨S2048, .i1⟩
  | 28 => ⟨S2048, .i1⟩
  | 29 => ⟨S2048, .i32⟩
  | 30 => ⟨S2048, .i32⟩
  | 31 => ⟨S2048, .i32⟩
  | 32 => ⟨S_, .i32⟩
  | 33 => ⟨S_, .i32⟩
  | 34 => ⟨S2048, .i32⟩
  | 35 => ⟨S2048, .i32⟩
  | 36 => ⟨S2048, .i32⟩
  | 37 => ⟨S_, .i32⟩
  | 38 => ⟨S2048, .i32⟩
  | 39 => ⟨S2048, .i1⟩
  | 40 => ⟨S2048, .i32⟩
  | 41 => ⟨S2048, .i32⟩
  | 42 => ⟨S_, .i32⟩
  | 43 => ⟨S2048, .i32⟩
  | 44 => ⟨S2048, .i1⟩
  | 45 => ⟨S2048, .i1⟩
  | 46 => ⟨S_, .i32⟩
  | 47 => ⟨S2048, .i32⟩
  | 48 => ⟨S2048, .i32⟩
  | 49 => ⟨S2048, .i32⟩
  | 50 => ⟨S2048, .i32⟩
  | 51 => ⟨S_, .i32⟩
  | 52 => ⟨S_, .i32⟩
  | 53 => ⟨S2048, .i32⟩
  | 54 => ⟨S2048, .i32⟩
  | 55 => ⟨S2048, .i32⟩
  | 56 => ⟨S_, .i32⟩
  | 57 => ⟨S2048, .i32⟩
  | 58 => ⟨S2048, .i1⟩
  | 59 => ⟨S2048, .i32⟩
  | 60 => ⟨S2048, .i32⟩
  | 61 => ⟨S_, .i32⟩
  | 62 => ⟨S2048, .i32⟩
  | 63 => ⟨S2048, .i1⟩
  | 64 => ⟨S2048, .i1⟩
  | 65 => ⟨S_, .i32⟩
  | 66 => ⟨S2048, .i32⟩
  | 67 => ⟨S2048, .i32⟩
  | 68 => ⟨S2048, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S2048, .i32⟩
  | 76 => ⟨S2048, .i32⟩
  | 77 => ⟨S_, .i32⟩
  | 78 => ⟨S2048, .i32⟩
  | 79 => ⟨S2048, .i1⟩
  | 80 => ⟨S_, .i32⟩
  | 81 => ⟨S2048, .i32⟩
  | 82 => ⟨S2048, .i1⟩
  | 83 => ⟨S_, .i32⟩
  | 84 => ⟨S_, .i1⟩
  | 85 => ⟨S2048, .i1⟩
  | 86 => ⟨S2048, .i1⟩
  | 87 => ⟨S2048, .i1⟩
  | 88 => ⟨S2048, .i32⟩
  | 89 => ⟨S2048, .i32⟩
  | 90 => ⟨S2048, .i32⟩
  | 91 => ⟨S_, .i32⟩
  | 92 => ⟨S2048, .i32⟩
  | 93 => ⟨S2048, .i32⟩
  | 94 => ⟨S2048, .i32⟩
  | 95 => ⟨S64, .i32⟩
  | 96 => ⟨S64x1, .i32⟩
  | 97 => ⟨S1x2048, .i32⟩
  | 98 => ⟨S64x2048, .i32⟩
  | 99 => ⟨S64x2048, .i32⟩
  | 100 => ⟨S64x2048, .i1⟩
  | 101 => ⟨S64x2048, .bf16⟩
  | 102 => ⟨S32x10000, .f32⟩
  | 103 => ⟨S32x25x400, .f32⟩
  | 104 => ⟨S25x32x400, .f32⟩
  | 105 => ⟨S32x10000, .f32⟩
  | 106 => ⟨S32x25x400, .f32⟩
  | 107 => ⟨S25x32x400, .f32⟩
  | 108 => ⟨S128x128, .f32⟩
  | 109 => ⟨S128x128, .f32⟩
  | 110 => ⟨S128x128, .f32⟩
  | 111 => ⟨S128x128, .f32⟩
  | 112 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S400x128, .f32⟩
  | .local _ .vmem, ⟨1, _⟩ => ⟨S400x128, .f32⟩
  | .local _ .vmem, ⟨2, _⟩ => ⟨S1x32x400, .f32⟩
  | .local _ .vmem, ⟨3, _⟩ => ⟨S1x32x400, .f32⟩
  | .local _ .vmem, ⟨4, _⟩ => ⟨S1x32x400, .f32⟩
  | .local _ .vmem, ⟨5, _⟩ => ⟨S1x32x400, .f32⟩
  | .local _ .vmem, ⟨6, _⟩ => ⟨S1x1x400, .i32⟩
  | .local _ .vmem, ⟨7, _⟩ => ⟨S1x1x400, .i32⟩
  | .local _ .vmem, ⟨8, _⟩ => ⟨S1x400x1, .i32⟩
  | .local _ .vmem, ⟨9, _⟩ => ⟨S1x400x1, .i32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S64x1x128, .f32⟩
  | .local _ .vmem, ⟨15, _⟩ => ⟨S2048x64, .bf16⟩
  | .local _ .vmem, ⟨16, _⟩ => ⟨S64x2048, .bf16⟩
  | .local _ .vmem, ⟨17, _⟩ => ⟨S128x128, .f32⟩
  | .local _ .vmem, ⟨18, _⟩ => ⟨S128x128, .f32⟩
  | .local _ .vmem, ⟨19, _⟩ => ⟨S400x128, .f32⟩
  | .local _ .vmem, ⟨20, _⟩ => ⟨S400x128, .f32⟩
  | .local _ .vmem, ⟨21, _⟩ => ⟨S64x288x128, .f32⟩
  | .local _ .vmem, ⟨22, _⟩ => ⟨S64x288x128, .bf16⟩
  | .local _ .vmem, ⟨23, _⟩ => ⟨S10000x64, .bf16⟩
  | .local _ .smem, ⟨0, _⟩ => ⟨S2x25, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v3 : Ref sig .tc := ⟨.hbm, 32, rfl⟩
abbrev main_c_0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_1 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_c : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_0 : Ref sig .tc := ⟨.hbm, 61, rfl⟩
abbrev main_call1_v12 : Ref sig .tc := ⟨.hbm, 62, rfl⟩
abbrev main_call1_v13 : Ref sig .tc := ⟨.hbm, 63, rfl⟩
abbrev main_v18 : Ref sig .tc := ⟨.hbm, 64, rfl⟩
abbrev main_c_2 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_c : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_0 : Ref sig .tc := ⟨.hbm, 79, rfl⟩
abbrev main_call2_v12 : Ref sig .tc := ⟨.hbm, 80, rfl⟩
abbrev main_call2_v13 : Ref sig .tc := ⟨.hbm, 81, rfl⟩
abbrev main_v19 : Ref sig .tc := ⟨.hbm, 82, rfl⟩
abbrev main_c_3 : Ref sig .tc := ⟨.hbm, 83, rfl⟩
abbrev main_call3_v0 : Ref sig .tc := ⟨.hbm, 84, rfl⟩
abbrev main_call3_c : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_c_1 : Ref sig .tc := ⟨.hbm, 91, rfl⟩
abbrev main_call3_v5 : Ref sig .tc := ⟨.hbm, 92, rfl⟩
abbrev main_call3_v6 : Ref sig .tc := ⟨.hbm, 93, rfl⟩
abbrev main_call3_c_2 : Ref sig .tc := ⟨.hbm, 94, rfl⟩
abbrev main_call3_v7 : Ref sig .tc := ⟨.hbm, 95, rfl⟩
abbrev main_call3_v8 : Ref sig .tc := ⟨.hbm, 96, rfl⟩
abbrev main_call3_c_3 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_v20 : Ref sig .tc := ⟨.hbm, 104, rfl⟩
abbrev main_c_4 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩
abbrev main_v30 : Ref sig .tc := ⟨.hbm, 115, rfl⟩
abbrev main_v31 : Ref sig .tc := ⟨.hbm, 116, rfl⟩
abbrev main_c_5 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_c : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_0 : Ref sig .tc := ⟨.hbm, 131, rfl⟩
abbrev main_call4_v12 : Ref sig .tc := ⟨.hbm, 132, rfl⟩
abbrev main_call4_v13 : Ref sig .tc := ⟨.hbm, 133, rfl⟩
abbrev main_v32 : Ref sig .tc := ⟨.hbm, 134, rfl⟩
abbrev main_c_6 : Ref sig .tc := ⟨.hbm, 135, rfl⟩
abbrev main_v33 : Ref sig .tc := ⟨.hbm, 136, rfl⟩
abbrev main_v34 : Ref sig .tc := ⟨.hbm, 137, rfl⟩
abbrev main_c_7 : Ref sig .tc := ⟨.hbm, 138, rfl⟩
abbrev main_call5_v0 : Ref sig .tc := ⟨.hbm, 139, rfl⟩
abbrev main_call5_c : Ref sig .tc := ⟨.hbm, 140, rfl⟩
abbrev main_call5_v1 : Ref sig .tc := ⟨.hbm, 141, rfl⟩
abbrev main_call5_c_0 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_call5_c_1 : Ref sig .tc := ⟨.hbm, 146, rfl⟩
abbrev main_call5_v5 : Ref sig .tc := ⟨.hbm, 147, rfl⟩
abbrev main_call5_v6 : Ref sig .tc := ⟨.hbm, 148, rfl⟩
abbrev main_call5_c_2 : Ref sig .tc := ⟨.hbm, 149, rfl⟩
abbrev main_call5_v7 : Ref sig .tc := ⟨.hbm, 150, rfl⟩
abbrev main_call5_v8 : Ref sig .tc := ⟨.hbm, 151, rfl⟩
abbrev main_call5_c_3 : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_call5_v12 : Ref sig .tc := ⟨.hbm, 156, rfl⟩
abbrev main_call5_v13 : Ref sig .tc := ⟨.hbm, 157, rfl⟩
abbrev main_call5_v14 : Ref sig .tc := ⟨.hbm, 158, rfl⟩
abbrev main_v35 : Ref sig .tc := ⟨.hbm, 159, rfl⟩
abbrev main_c_8 : Ref sig .tc := ⟨.hbm, 160, rfl⟩
abbrev main_call6_v0 : Ref sig .tc := ⟨.hbm, 161, rfl⟩
abbrev main_call6_v1 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_v6 : Ref sig .tc := ⟨.hbm, 167, rfl⟩
abbrev main_call6_v7 : Ref sig .tc := ⟨.hbm, 168, rfl⟩
abbrev main_call6_v8 : Ref sig .tc := ⟨.hbm, 169, rfl⟩
abbrev main_call6_c : Ref sig .tc := ⟨.hbm, 170, rfl⟩
abbrev main_call6_v9 : Ref sig .tc := ⟨.hbm, 171, rfl⟩
abbrev main_call6_v10 : Ref sig .tc := ⟨.hbm, 172, rfl⟩
abbrev main_call6_v11 : Ref sig .tc := ⟨.hbm, 173, rfl⟩
abbrev main_call6_c_0 : Ref sig .tc := ⟨.hbm, 174, rfl⟩
abbrev main_call6_v12 : Ref sig .tc := ⟨.hbm, 175, rfl⟩
abbrev main_call6_v13 : Ref sig .tc := ⟨.hbm, 176, rfl⟩
abbrev main_v36 : Ref sig .tc := ⟨.hbm, 177, rfl⟩
abbrev main_v37 : Ref sig .tc := ⟨.hbm, 178, rfl⟩
abbrev main_c_9 : Ref sig .tc := ⟨.hbm, 179, rfl⟩
abbrev main_call7_v0 : Ref sig .tc := ⟨.hbm, 180, rfl⟩
abbrev main_call7_v1 : Ref sig .tc := ⟨.hbm, 181, rfl⟩
abbrev main_call7_v2 : Ref sig .tc := ⟨.hbm, 182, rfl⟩
abbrev main_call7_v3 : Ref sig .tc := ⟨.hbm, 183, rfl⟩
abbrev main_call7_v4 : Ref sig .tc := ⟨.hbm, 184, rfl⟩
abbrev main_call7_v5 : Ref sig .tc := ⟨.hbm, 185, rfl⟩
abbrev main_call7_v6 : Ref sig .tc := ⟨.hbm, 186, rfl⟩
abbrev main_call7_v7 : Ref sig .tc := ⟨.hbm, 187, rfl⟩
abbrev main_call7_v8 : Ref sig .tc := ⟨.hbm, 188, rfl⟩
abbrev main_call7_c : Ref sig .tc := ⟨.hbm, 189, rfl⟩
abbrev main_call7_v9 : Ref sig .tc := ⟨.hbm, 190, rfl⟩
abbrev main_call7_v10 : Ref sig .tc := ⟨.hbm, 191, rfl⟩
abbrev main_call7_v11 : Ref sig .tc := ⟨.hbm, 192, rfl⟩
abbrev main_call7_c_0 : Ref sig .tc := ⟨.hbm, 193, rfl⟩
abbrev main_call7_v12 : Ref sig .tc := ⟨.hbm, 194, rfl⟩
abbrev main_call7_v13 : Ref sig .tc := ⟨.hbm, 195, rfl⟩
abbrev main_v38 : Ref sig .tc := ⟨.hbm, 196, rfl⟩
abbrev main_c_10 : Ref sig .tc := ⟨.hbm, 197, rfl⟩
abbrev main_call8_v0 : Ref sig .tc := ⟨.hbm, 198, rfl⟩
abbrev main_call8_c : Ref sig .tc := ⟨.hbm, 199, rfl⟩
abbrev main_call8_v1 : Ref sig .tc := ⟨.hbm, 200, rfl⟩
abbrev main_call8_c_0 : Ref sig .tc := ⟨.hbm, 201, rfl⟩
abbrev main_call8_v2 : Ref sig .tc := ⟨.hbm, 202, rfl⟩
abbrev main_call8_v3 : Ref sig .tc := ⟨.hbm, 203, rfl⟩
abbrev main_call8_v4 : Ref sig .tc := ⟨.hbm, 204, rfl⟩
abbrev main_call8_c_1 : Ref sig .tc := ⟨.hbm, 205, rfl⟩
abbrev main_call8_v5 : Ref sig .tc := ⟨.hbm, 206, rfl⟩
abbrev main_call8_v6 : Ref sig .tc := ⟨.hbm, 207, rfl⟩
abbrev main_call8_c_2 : Ref sig .tc := ⟨.hbm, 208, rfl⟩
abbrev main_call8_v7 : Ref sig .tc := ⟨.hbm, 209, rfl⟩
abbrev main_call8_v8 : Ref sig .tc := ⟨.hbm, 210, rfl⟩
abbrev main_call8_c_3 : Ref sig .tc := ⟨.hbm, 211, rfl⟩
abbrev main_call8_v9 : Ref sig .tc := ⟨.hbm, 212, rfl⟩
abbrev main_call8_v10 : Ref sig .tc := ⟨.hbm, 213, rfl⟩
abbrev main_call8_v11 : Ref sig .tc := ⟨.hbm, 214, rfl⟩
abbrev main_call8_v12 : Ref sig .tc := ⟨.hbm, 215, rfl⟩
abbrev main_call8_v13 : Ref sig .tc := ⟨.hbm, 216, rfl⟩
abbrev main_call8_v14 : Ref sig .tc := ⟨.hbm, 217, rfl⟩
abbrev main_v39 : Ref sig .tc := ⟨.hbm, 218, rfl⟩
abbrev main_c_11 : Ref sig .tc := ⟨.hbm, 219, rfl⟩
abbrev main_v40 : Ref sig .tc := ⟨.hbm, 220, rfl⟩
abbrev main_v41 : Ref sig .tc := ⟨.hbm, 221, rfl⟩
abbrev main_v42 : Ref sig .tc := ⟨.hbm, 222, rfl⟩
abbrev main_v43 : Ref sig .tc := ⟨.hbm, 223, rfl⟩
abbrev main_v44 : Ref sig .tc := ⟨.hbm, 224, rfl⟩
abbrev main_v45 : Ref sig .tc := ⟨.hbm, 225, rfl⟩
abbrev main_v46 : Ref sig .tc := ⟨.hbm, 226, rfl⟩
abbrev main_v47 : Ref sig .tc := ⟨.hbm, 227, rfl⟩
abbrev main_v48 : Ref sig .tc := ⟨.hbm, 228, rfl⟩
abbrev main_v49 : Ref sig .tc := ⟨.hbm, 229, rfl⟩
abbrev main_v50 : Ref sig .tc := ⟨.hbm, 230, rfl⟩
abbrev main_v51 : Ref sig .tc := ⟨.hbm, 231, rfl⟩
abbrev main_v52 : Ref sig .tc := ⟨.hbm, 232, rfl⟩
abbrev main_v53 : Ref sig .tc := ⟨.hbm, 233, rfl⟩
abbrev main_v54 : Ref sig .tc := ⟨.hbm, 234, rfl⟩
abbrev main_v55 : Ref sig .tc := ⟨.hbm, 235, rfl⟩
abbrev main_v56 : Ref sig .tc := ⟨.hbm, 236, rfl⟩
abbrev main_v57 : Ref sig .tc := ⟨.hbm, 237, rfl⟩
abbrev main_v58 : Ref sig .tc := ⟨.hbm, 238, rfl⟩
abbrev main_v59 : Ref sig .tc := ⟨.hbm, 239, rfl⟩
abbrev main_v60 : Ref sig .tc := ⟨.hbm, 240, rfl⟩
abbrev main_v9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![50], ![false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c24_i32 : BitVec 32 := 24#32
  let v9 : BitVec 32 := Scalar.minsi arg0 c24_i32
  let c400_i32 : BitVec 32 := 400#32
  let v60 : BitVec 32 := Scalar.muli v9 c400_i32
  v60
def k0_off1 (i : grid0.Coords) : Fin 2 → Nat :=
  let arg0 : BitVec 32 := BitVec.ofNat 32 (i 0).val
  let c24_i32 : BitVec 32 := 24#32
  let v9 : BitVec 32 := Scalar.minsi arg0 c24_i32
  let c400_i32 : BitVec 32 := 400#32
  let v60 : BitVec 32 := Scalar.muli v9 c400_i32
  let v61 : BitVec 32 := v60
  let v63 : Index := Scalar.indexCast v61
  let c0_25 : Index := 0#32
  ![v63.toNat, 0]
def k0_off2 (i : grid0.Coords) : Fin 2 → Nat :=
  let c0_32 : Index := 0#32
  let arg0 : BitVec 32 := BitVec.ofNat 32 (i 0).val
  let c24_i32 : BitVec 32 := 24#32
  let v9 : BitVec 32 := Scalar.minsi arg0 c24_i32
  let v73 : Index := Scalar.indexCast v9
  ![0, v73.toNat]
def k0_off3 (i : grid0.Coords) : Fin 2 → Nat :=
  let c1 : Index := 1#32
  let arg0 : BitVec 32 := BitVec.ofNat 32 (i 0).val
  let c24_i32 : BitVec 32 := 24#32
  let v9 : BitVec 32 := Scalar.minsi arg0 c24_i32
  let v75 : Index := Scalar.indexCast v9
  ![1, v75.toNat]
def k0_mult2 (v74 : BitVec 32) : BitVec 32 :=
  v74

def k0_off4 (v74 : BitVec 32) : Fin 3 → Nat :=
  let c0_34 : Index := 0#32
  let v88 : BitVec 32 := v74
  let v89 : Index := Scalar.indexCast v88
  let c0_35 : Index := 0#32
  ![0, v89.toNat, 0]

def k0_chk1 (i : grid0.Coords) (v74 : BitVec 32) : Prop :=
  (∀ (k0_h2 : k0_cond2 i = 1#1), 16 ∣ (k0_mult2 v74).toNat) ∧
  (∀ (k0_h2 : k0_cond2 i = 1#1), ∀ a, (k0_off4 v74) a + S64x32x128.size a ≤ S64x288x128.size a)
theorem k0_mult2_dvd : ∀ (i : grid0.Coords) (v74 : BitVec 32) (k0_hw1 : k0_chk1 i v74), ∀ (k0_h2 : k0_cond2 i = 1#1), 16 ∣ (k0_mult2 v74).toNat := fun i v74 k0_hw1 k0_h2 => k0_hw1.1 k0_h2
theorem k0_off4_inb : ∀ (i : grid0.Coords) (v74 : BitVec 32) (k0_hw1 : k0_chk1 i v74), ∀ (k0_h2 : k0_cond2 i = 1#1), ∀ a, (k0_off4 v74) a + S64x32x128.size a ≤ S64x288x128.size a := fun i v74 k0_hw1 k0_h2 => k0_hw1.2 k0_h2

@[reducible] def k0_t1_loop (v74 : BitVec 32) (v76 : BitVec 32) : Scf.Loop 32 :=
  let c1_i32_45 : BitVec 32 := 1#32
  let v97 : BitVec 32 := Scalar.subi v76 v74
  let c0_i32_38 : BitVec 32 := 0#32
  let v99 : BitVec 1 := Scalar.cmpi .sgt v97 c0_i32_38
  let v100 : BitVec 32 := Scalar.extui v99
  let c0_i32_39 : BitVec 32 := 0#32
  let v101 : BitVec 1 := Scalar.cmpi .slt v97 c0_i32_39
  let v102 : BitVec 32 := Scalar.extui v101
  let v103 : BitVec 32 := Scalar.subi v100 v102
  let c32_i32 : BitVec 32 := 32#32
  let c0_i32_40 : BitVec 32 := 0#32
  let v104 : BitVec 1 := Scalar.cmpi .sgt c32_i32 c0_i32_40
  let v105 : BitVec 32 := Scalar.extui v104
  let c0_i32_41 : BitVec 32 := 0#32
  let v106 : BitVec 1 := Scalar.cmpi .slt c32_i32 c0_i32_41
  let v107 : BitVec 32 := Scalar.extui v106
  let v108 : BitVec 32 := Scalar.subi v105 v107
  let v109 : BitVec 1 := Scalar.cmpi .ne v103 v108
  let v110 : BitVec 32 := Scalar.remsi v97 c32_i32
  let c0_i32_42 : BitVec 32 := 0#32
  let v111 : BitVec 1 := Scalar.cmpi .ne v110 c0_i32_42
  let v112 : BitVec 1 := Scalar.andi v109 v111
  let v98 : BitVec 32 := Scalar.divsi v97 c32_i32
  let c1_i32 : BitVec 32 := 1#32
  let v113 : BitVec 32 := Scalar.subi v98 c1_i32
  let v114 : BitVec 32 := Scalar.select v112 v113 v98
  let c1_i32_43 : BitVec 32 := 1#32
  let v115 : BitVec 32 := Scalar.addi v114 c1_i32_43
  let v116 : BitVec 32 := Scalar.subi v115 c1_i32_45
  let c1_i32_46 : BitVec 32 := 1#32
  let v118 : BitVec 32 := Scalar.divsi v116 c1_i32_46
  let v119 : BitVec 32 := Scalar.muli v118 c1_i32_46
  let v120 : BitVec 32 := Scalar.addi c1_i32_45 v119
  let c1_i32_47 : BitVec 32 := 1#32
  ⟨c1_i32_45, v120, c1_i32_47⟩

def k0_mult3 (v74 : BitVec 32) (v76 : BitVec 32) (k0_t1 : Fin (k0_t1_loop v74 v76).trips) : BitVec 32 :=
  let c1_i32_45 : BitVec 32 := 1#32
  let c1_i32_47 : BitVec 32 := 1#32
  let arg20 : BitVec 32 := Scf.iv c1_i32_45 c1_i32_47 k0_t1
  let c32_i32_51 : BitVec 32 := 32#32
  let v124 : BitVec 32 := Scalar.muli arg20 c32_i32_51
  let v125 : BitVec 32 := Scalar.addi v74 v124
  v125
def k0_off5 (v74 : BitVec 32) (v76 : BitVec 32) (k0_t1 : Fin (k0_t1_loop v74 v76).trips) : Fin 3 → Nat :=
  let c0_53 : Index := 0#32
  let c1_i32_45 : BitVec 32 := 1#32
  let c1_i32_47 : BitVec 32 := 1#32
  let arg20 : BitVec 32 := Scf.iv c1_i32_45 c1_i32_47 k0_t1
  let c32_i32_51 : BitVec 32 := 32#32
  let v124 : BitVec 32 := Scalar.muli arg20 c32_i32_51
  let v125 : BitVec 32 := Scalar.addi v74 v124
  let v137 : BitVec 32 := v125
  let v138 : Index := Scalar.indexCast v137
  let c0_54 : Index := 0#32
  ![0, v138.toNat, 0]
@[reducible] def k0_t2_loop (v74 : BitVec 32) (v76 : BitVec 32) : Scf.Loop 32 :=
  let c1_i32_45 : BitVec 32 := 1#32
  let v97 : BitVec 32 := Scalar.subi v76 v74
  let c0_i32_38 : BitVec 32 := 0#32
  let v99 : BitVec 1 := Scalar.cmpi .sgt v97 c0_i32_38
  let v100 : BitVec 32 := Scalar.extui v99
  let c0_i32_39 : BitVec 32 := 0#32
  let v101 : BitVec 1 := Scalar.cmpi .slt v97 c0_i32_39
  let v102 : BitVec 32 := Scalar.extui v101
  let v103 : BitVec 32 := Scalar.subi v100 v102
  let c32_i32 : BitVec 32 := 32#32
  let c0_i32_40 : BitVec 32 := 0#32
  let v104 : BitVec 1 := Scalar.cmpi .sgt c32_i32 c0_i32_40
  let v105 : BitVec 32 := Scalar.extui v104
  let c0_i32_41 : BitVec 32 := 0#32
  let v106 : BitVec 1 := Scalar.cmpi .slt c32_i32 c0_i32_41
  let v107 : BitVec 32 := Scalar.extui v106
  let v108 : BitVec 32 := Scalar.subi v105 v107
  let v109 : BitVec 1 := Scalar.cmpi .ne v103 v108
  let v110 : BitVec 32 := Scalar.remsi v97 c32_i32
  let c0_i32_42 : BitVec 32 := 0#32
  let v111 : BitVec 1 := Scalar.cmpi .ne v110 c0_i32_42
  let v112 : BitVec 1 := Scalar.andi v109 v111
  let v98 : BitVec 32 := Scalar.divsi v97 c32_i32
  let c1_i32 : BitVec 32 := 1#32
  let v113 : BitVec 32 := Scalar.subi v98 c1_i32
  let v114 : BitVec 32 := Scalar.select v112 v113 v98
  let c1_i32_43 : BitVec 32 := 1#32
  let v115 : BitVec 32 := Scalar.addi v114 c1_i32_43
  let v116 : BitVec 32 := Scalar.subi v115 c1_i32_45
  let c1_i32_46 : BitVec 32 := 1#32
  let v118 : BitVec 32 := Scalar.divsi v116 c1_i32_46
  let v119 : BitVec 32 := Scalar.muli v118 c1_i32_46
  let v120 : BitVec 32 := Scalar.addi c1_i32_45 v119
  let v117 : BitVec 32 := Scalar.addi c1_i32_45 v116
  let c1_i32_48 : BitVec 32 := 1#32
  ⟨v120, v117, c1_i32_48⟩
def k0_mult4 (v74 : BitVec 32) (v76 : BitVec 32) (k0_t2 : Fin (k0_t2_loop v74 v76).trips) : BitVec 32 :=
  let c1_i32_45 : BitVec 32 := 1#32
  let v97 : BitVec 32 := Scalar.subi v76 v74
  let c0_i32_38 : BitVec 32 := 0#32
  let v99 : BitVec 1 := Scalar.cmpi .sgt v97 c0_i32_38
  let v100 : BitVec 32 := Scalar.extui v99
  let c0_i32_39 : BitVec 32 := 0#32
  let v101 : BitVec 1 := Scalar.cmpi .slt v97 c0_i32_39
  let v102 : BitVec 32 := Scalar.extui v101
  let v103 : BitVec 32 := Scalar.subi v100 v102
  let c32_i32 : BitVec 32 := 32#32
  let c0_i32_40 : BitVec 32 := 0#32
  let v104 : BitVec 1 := Scalar.cmpi .sgt c32_i32 c0_i32_40
  let v105 : BitVec 32 := Scalar.extui v104
  let c0_i32_41 : BitVec 32 := 0#32
  let v106 : BitVec 1 := Scalar.cmpi .slt c32_i32 c0_i32_41
  let v107 : BitVec 32 := Scalar.extui v106
  let v108 : BitVec 32 := Scalar.subi v105 v107
  let v109 : BitVec 1 := Scalar.cmpi .ne v103 v108
  let v110 : BitVec 32 := Scalar.remsi v97 c32_i32
  let c0_i32_42 : BitVec 32 := 0#32
  let v111 : BitVec 1 := Scalar.cmpi .ne v110 c0_i32_42
  let v112 : BitVec 1 := Scalar.andi v109 v111
  let v98 : BitVec 32 := Scalar.divsi v97 c32_i32
  let c1_i32 : BitVec 32 := 1#32
  let v113 : BitVec 32 := Scalar.subi v98 c1_i32
  let v114 : BitVec 32 := Scalar.select v112 v113 v98
  let c1_i32_43 : BitVec 32 := 1#32
  let v115 : BitVec 32 := Scalar.addi v114 c1_i32_43
  let v116 : BitVec 32 := Scalar.subi v115 c1_i32_45
  let c1_i32_46 : BitVec 32 := 1#32
  let v118 : BitVec 32 := Scalar.divsi v116 c1_i32_46
  let v119 : BitVec 32 := Scalar.muli v118 c1_i32_46
  let v120 : BitVec 32 := Scalar.addi c1_i32_45 v119
  let c1_i32_48 : BitVec 32 := 1#32
  let arg20 : BitVec 32 := Scf.iv v120 c1_i32_48 k0_t2
  let c32_i32_51 : BitVec 32 := 32#32
  let v124 : BitVec 32 := Scalar.muli arg20 c32_i32_51
  let v125 : BitVec 32 := Scalar.addi v74 v124
  v125
def k0_off6 (v74 : BitVec 32) (v76 : BitVec 32) (k0_t2 : Fin (k0_t2_loop v74 v76).trips) : Fin 3 → Nat :=
  let c0_53 : Index := 0#32
  let c1_i32_45 : BitVec 32 := 1#32
  let v97 : BitVec 32 := Scalar.subi v76 v74
  let c0_i32_38 : BitVec 32 := 0#32
  let v99 : BitVec 1 := Scalar.cmpi .sgt v97 c0_i32_38
  let v100 : BitVec 32 := Scalar.extui v99
  let c0_i32_39 : BitVec 32 := 0#32
  let v101 : BitVec 1 := Scalar.cmpi .slt v97 c0_i32_39
  let v102 : BitVec 32 := Scalar.extui v101
  let v103 : BitVec 32 := Scalar.subi v100 v102
  let c32_i32 : BitVec 32 := 32#32
  let c0_i32_40 : BitVec 32 := 0#32
  let v104 : BitVec 1 := Scalar.cmpi .sgt c32_i32 c0_i32_40
  let v105 : BitVec 32 := Scalar.extui v104
  let c0_i32_41 : BitVec 32 := 0#32
  let v106 : BitVec 1 := Scalar.cmpi .slt c32_i32 c0_i32_41
  let v107 : BitVec 32 := Scalar.extui v106
  let v108 : BitVec 32 := Scalar.subi v105 v107
  let v109 : BitVec 1 := Scalar.cmpi .ne v103 v108
  let v110 : BitVec 32 := Scalar.remsi v97 c32_i32
  let c0_i32_42 : BitVec 32 := 0#32
  let v111 : BitVec 1 := Scalar.cmpi .ne v110 c0_i32_42
  let v112 : BitVec 1 := Scalar.andi v109 v111
  let v98 : BitVec 32 := Scalar.divsi v97 c32_i32
  let c1_i32 : BitVec 32 := 1#32
  let v113 : BitVec 32 := Scalar.subi v98 c1_i32
  let v114 : BitVec 32 := Scalar.select v112 v113 v98
  let c1_i32_43 : BitVec 32 := 1#32
  let v115 : BitVec 32 := Scalar.addi v114 c1_i32_43
  let v116 : BitVec 32 := Scalar.subi v115 c1_i32_45
  let c1_i32_46 : BitVec 32 := 1#32
  let v118 : BitVec 32 := Scalar.divsi v116 c1_i32_46
  let v119 : BitVec 32 := Scalar.muli v118 c1_i32_46
  let v120 : BitVec 32 := Scalar.addi c1_i32_45 v119
  let c1_i32_48 : BitVec 32 := 1#32
  let arg20 : BitVec 32 := Scf.iv v120 c1_i32_48 k0_t2
  let c32_i32_51 : BitVec 32 := 32#32
  let v124 : BitVec 32 := Scalar.muli arg20 c32_i32_51
  let v125 : BitVec 32 := Scalar.addi v74 v124
  let v137 : BitVec 32 := v125
  let v138 : Index := Scalar.indexCast v137
  let c0_54 : Index := 0#32
  ![0, v138.toNat, 0]

def k0_chk2 (i : grid0.Coords) (v74 : BitVec 32) (v76 : BitVec 32) : Prop :=
  (∀ (k0_h2 : k0_cond2 i = 1#1), (k0_t1_loop v74 v76).OK) ∧
  (∀ k0_t1 : Fin (k0_t1_loop v74 v76).trips, ∀ (k0_h2 : k0_cond2 i = 1#1), 16 ∣ (k0_mult3 v74 v76 k0_t1).toNat) ∧
  (∀ k0_t1 : Fin (k0_t1_loop v74 v76).trips, ∀ (k0_h2 : k0_cond2 i = 1#1), ∀ a, (k0_off5 v74 v76 k0_t1) a + S64x32x128.size a ≤ S64x288x128.size a) ∧
  (∀ (k0_h2 : k0_cond2 i = 1#1), (k0_t2_loop v74 v76).OK) ∧
  (∀ k0_t2 : Fin (k0_t2_loop v74 v76).trips, ∀ (k0_h2 : k0_cond2 i = 1#1), 16 ∣ (k0_mult4 v74 v76 k0_t2).toNat) ∧
  (∀ k0_t2 : Fin (k0_t2_loop v74 v76).trips, ∀ (k0_h2 : k0_cond2 i = 1#1), ∀ a, (k0_off6 v74 v76 k0_t2) a + S64x32x128.size a ≤ S64x288x128.size a)
theorem k0_t1_ok : ∀ (i : grid0.Coords) (v74 : BitVec 32) (v76 : BitVec 32) (k0_hw2 : k0_chk2 i v74 v76), ∀ (k0_h2 : k0_cond2 i = 1#1), (k0_t1_loop v74 v76).OK := fun i v74 v76 k0_hw2 k0_h2 => k0_hw2.1 k0_h2
theorem k0_mult3_dvd : ∀ (i : grid0.Coords) (v74 : BitVec 32) (v76 : BitVec 32) (k0_hw2 : k0_chk2 i v74 v76) (k0_t1 : Fin (k0_t1_loop v74 v76).trips), ∀ (k0_h2 : k0_cond2 i = 1#1), 16 ∣ (k0_mult3 v74 v76 k0_t1).toNat := fun i v74 v76 k0_hw2 k0_t1 k0_h2 => k0_hw2.2.1 k0_t1 k0_h2
theorem k0_off5_inb : ∀ (i : grid0.Coords) (v74 : BitVec 32) (v76 : BitVec 32) (k0_hw2 : k0_chk2 i v74 v76) (k0_t1 : Fin (k0_t1_loop v74 v76).trips), ∀ (k0_h2 : k0_cond2 i = 1#1), ∀ a, (k0_off5 v74 v76 k0_t1) a + S64x32x128.size a ≤ S64x288x128.size a := fun i v74 v76 k0_hw2 k0_t1 k0_h2 => k0_hw2.2.2.1 k0_t1 k0_h2
theorem k0_t2_ok : ∀ (i : grid0.Coords) (v74 : BitVec 32) (v76 : BitVec 32) (k0_hw2 : k0_chk2 i v74 v76), ∀ (k0_h2 : k0_cond2 i = 1#1), (k0_t2_loop v74 v76).OK := fun i v74 v76 k0_hw2 k0_h2 => k0_hw2.2.2.2.1 k0_h2
theorem k0_mult4_dvd : ∀ (i : grid0.Coords) (v74 : BitVec 32) (v76 : BitVec 32) (k0_hw2 : k0_chk2 i v74 v76) (k0_t2 : Fin (k0_t2_loop v74 v76).trips), ∀ (k0_h2 : k0_cond2 i = 1#1), 16 ∣ (k0_mult4 v74 v76 k0_t2).toNat := fun i v74 v76 k0_hw2 k0_t2 k0_h2 => k0_hw2.2.2.2.2.1 k0_t2 k0_h2
theorem k0_off6_inb : ∀ (i : grid0.Coords) (v74 : BitVec 32) (v76 : BitVec 32) (k0_hw2 : k0_chk2 i v74 v76) (k0_t2 : Fin (k0_t2_loop v74 v76).trips), ∀ (k0_h2 : k0_cond2 i = 1#1), ∀ a, (k0_off6 v74 v76 k0_t2) a + S64x32x128.size a ≤ S64x288x128.size a := fun i v74 v76 k0_hw2 k0_t2 k0_h2 => k0_hw2.2.2.2.2.2 k0_t2 k0_h2

def k0_cond4 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def k0_mult5 (i : grid0.Coords) : BitVec 32 :=
  let arg0 : BitVec 32 := BitVec.ofNat 32 (i 0).val
  let c25_i32_4 : BitVec 32 := 25#32
  let v9 : BitVec 32 := Scalar.subi arg0 c25_i32_4
  let c0_i32_5 : BitVec 32 := 0#32
  let v10 : BitVec 32 := Scalar.maxsi v9 c0_i32_5
  let c400_i32 : BitVec 32 := 400#32
  let v11 : BitVec 32 := Scalar.muli v10 c400_i32
  v11
def k0_off7 (i : grid0.Coords) : Fin 2 → Nat :=
  let arg0 : BitVec 32 := BitVec.ofNat 32 (i 0).val
  let c25_i32_4 : BitVec 32 := 25#32
  let v9 : BitVec 32 := Scalar.subi arg0 c25_i32_4
  let c0_i32_5 : BitVec 32 := 0#32
  let v10 : BitVec 32 := Scalar.maxsi v9 c0_i32_5
  let c400_i32 : BitVec 32 := 400#32
  let v11 : BitVec 32 := Scalar.muli v10 c400_i32
  let v12 : BitVec 32 := v11
  let v13 : Index := Scalar.indexCast v12
  let c0 : Index := 0#32
  ![v13.toNat, 0]
def k0_off8 (i : grid0.Coords) : Fin 2 → Nat :=
  let c0_9 : Index := 0#32
  let arg0 : BitVec 32 := BitVec.ofNat 32 (i 0).val
  let c25_i32_4 : BitVec 32 := 25#32
  let v9 : BitVec 32 := Scalar.subi arg0 c25_i32_4
  let c0_i32_5 : BitVec 32 := 0#32
  let v10 : BitVec 32 := Scalar.maxsi v9 c0_i32_5
  let v17 : Index := Scalar.indexCast v10
  ![0, v17.toNat]
def k0_off9 (i : grid0.Coords) : Fin 2 → Nat :=
  let c1 : Index := 1#32
  let arg0 : BitVec 32 := BitVec.ofNat 32 (i 0).val
  let c25_i32_4 : BitVec 32 := 25#32
  let v9 : BitVec 32 := Scalar.subi arg0 c25_i32_4
  let c0_i32_5 : BitVec 32 := 0#32
  let v10 : BitVec 32 := Scalar.maxsi v9 c0_i32_5
  let v19 : Index := Scalar.indexCast v10
  ![1, v19.toNat]
def k0_mult6 (v18 : BitVec 32) : BitVec 32 :=
  v18

def k0_off10 (v18 : BitVec 32) : Fin 3 → Nat :=
  let c0_12 : Index := 0#32
  let v37 : BitVec 32 := v18
  let v38 : Index := Scalar.indexCast v37
  let c0_13 : Index := 0#32
  ![0, v38.toNat, 0]

def k0_chk3 (i : grid0.Coords) (v18 : BitVec 32) : Prop :=
  (∀ (k0_h4 : k0_cond4 i = 1#1), 16 ∣ (k0_mult6 v18).toNat) ∧
  (∀ (k0_h4 : k0_cond4 i = 1#1), ∀ a, (k0_off10 v18) a + S64x32x128.size a ≤ S64x288x128.size a)
theorem k0_mult6_dvd : ∀ (i : grid0.Coords) (v18 : BitVec 32) (k0_hw3 : k0_chk3 i v18), ∀ (k0_h4 : k0_cond4 i = 1#1), 16 ∣ (k0_mult6 v18).toNat := fun i v18 k0_hw3 k0_h4 => k0_hw3.1 k0_h4
theorem k0_off10_inb : ∀ (i : grid0.Coords) (v18 : BitVec 32) (k0_hw3 : k0_chk3 i v18), ∀ (k0_h4 : k0_cond4 i = 1#1), ∀ a, (k0_off10 v18) a + S64x32x128.size a ≤ S64x288x128.size a := fun i v18 k0_hw3 k0_h4 => k0_hw3.2 k0_h4

@[reducible] def k0_t3_loop (v18 : BitVec 32) (v20 : BitVec 32) : Scf.Loop 32 :=
  let c1_i32_21 : BitVec 32 := 1#32
  let v42 : BitVec 32 := Scalar.subi v20 v18
  let c0_i32_15 : BitVec 32 := 0#32
  let v44 : BitVec 1 := Scalar.cmpi .sgt v42 c0_i32_15
  let v45 : BitVec 32 := Scalar.extui v44
  let c0_i32_16 : BitVec 32 := 0#32
  let v46 : BitVec 1 := Scalar.cmpi .slt v42 c0_i32_16
  let v47 : BitVec 32 := Scalar.extui v46
  let v48 : BitVec 32 := Scalar.subi v45 v47
  let c32_i32 : BitVec 32 := 32#32
  let c0_i32_17 : BitVec 32 := 0#32
  let v49 : BitVec 1 := Scalar.cmpi .sgt c32_i32 c0_i32_17
  let v50 : BitVec 32 := Scalar.extui v49
  let c0_i32_18 : BitVec 32 := 0#32
  let v51 : BitVec 1 := Scalar.cmpi .slt c32_i32 c0_i32_18
  let v52 : BitVec 32 := Scalar.extui v51
  let v53 : BitVec 32 := Scalar.subi v50 v52
  let v54 : BitVec 1 := Scalar.cmpi .ne v48 v53
  let v55 : BitVec 32 := Scalar.remsi v42 c32_i32
  let c0_i32_19 : BitVec 32 := 0#32
  let v56 : BitVec 1 := Scalar.cmpi .ne v55 c0_i32_19
  let v57 : BitVec 1 := Scalar.andi v54 v56
  let v43 : BitVec 32 := Scalar.divsi v42 c32_i32
  let c1_i32 : BitVec 32 := 1#32
  let v58 : BitVec 32 := Scalar.subi v43 c1_i32
  let v59 : BitVec 32 := Scalar.select v57 v58 v43
  let c1_i32_20 : BitVec 32 := 1#32
  let v60 : BitVec 32 := Scalar.addi v59 c1_i32_20
  let v61 : BitVec 32 := Scalar.subi v60 c1_i32_21
  let c1_i32_22 : BitVec 32 := 1#32
  let v63 : BitVec 32 := Scalar.divsi v61 c1_i32_22
  let v64 : BitVec 32 := Scalar.muli v63 c1_i32_22
  let v65 : BitVec 32 := Scalar.addi c1_i32_21 v64
  let c1_i32_23 : BitVec 32 := 1#32
  ⟨c1_i32_21, v65, c1_i32_23⟩

def k0_mult7 (v18 : BitVec 32) (v20 : BitVec 32) (k0_t3 : Fin (k0_t3_loop v18 v20).trips) : BitVec 32 :=
  let c1_i32_21 : BitVec 32 := 1#32
  let c1_i32_23 : BitVec 32 := 1#32
  let arg20 : BitVec 32 := Scf.iv c1_i32_21 c1_i32_23 k0_t3
  let c32_i32_35 : BitVec 32 := 32#32
  let v82 : BitVec 32 := Scalar.muli arg20 c32_i32_35
  let v83 : BitVec 32 := Scalar.addi v18 v82
  v83
def k0_off11 (v18 : BitVec 32) (v20 : BitVec 32) (k0_t3 : Fin (k0_t3_loop v18 v20).trips) : Fin 3 → Nat :=
  let c0_37 : Index := 0#32
  let c1_i32_21 : BitVec 32 := 1#32
  let c1_i32_23 : BitVec 32 := 1#32
  let arg20 : BitVec 32 := Scf.iv c1_i32_21 c1_i32_23 k0_t3
  let c32_i32_35 : BitVec 32 := 32#32
  let v82 : BitVec 32 := Scalar.muli arg20 c32_i32_35
  let v83 : BitVec 32 := Scalar.addi v18 v82
  let v95 : BitVec 32 := v83
  let v96 : Index := Scalar.indexCast v95
  let c0_38 : Index := 0#32
  ![0, v96.toNat, 0]
@[reducible] def k0_t4_loop (v18 : BitVec 32) (v20 : BitVec 32) : Scf.Loop 32 :=
  let c1_i32_21 : BitVec 32 := 1#32
  let v42 : BitVec 32 := Scalar.subi v20 v18
  let c0_i32_15 : BitVec 32 := 0#32
  let v44 : BitVec 1 := Scalar.cmpi .sgt v42 c0_i32_15
  let v45 : BitVec 32 := Scalar.extui v44
  let c0_i32_16 : BitVec 32 := 0#32
  let v46 : BitVec 1 := Scalar.cmpi .slt v42 c0_i32_16
  let v47 : BitVec 32 := Scalar.extui v46
  let v48 : BitVec 32 := Scalar.subi v45 v47
  let c32_i32 : BitVec 32 := 32#32
  let c0_i32_17 : BitVec 32 := 0#32
  let v49 : BitVec 1 := Scalar.cmpi .sgt c32_i32 c0_i32_17
  let v50 : BitVec 32 := Scalar.extui v49
  let c0_i32_18 : BitVec 32 := 0#32
  let v51 : BitVec 1 := Scalar.cmpi .slt c32_i32 c0_i32_18
  let v52 : BitVec 32 := Scalar.extui v51
  let v53 : BitVec 32 := Scalar.subi v50 v52
  let v54 : BitVec 1 := Scalar.cmpi .ne v48 v53
  let v55 : BitVec 32 := Scalar.remsi v42 c32_i32
  let c0_i32_19 : BitVec 32 := 0#32
  let v56 : BitVec 1 := Scalar.cmpi .ne v55 c0_i32_19
  let v57 : BitVec 1 := Scalar.andi v54 v56
  let v43 : BitVec 32 := Scalar.divsi v42 c32_i32
  let c1_i32 : BitVec 32 := 1#32
  let v58 : BitVec 32 := Scalar.subi v43 c1_i32
  let v59 : BitVec 32 := Scalar.select v57 v58 v43
  let c1_i32_20 : BitVec 32 := 1#32
  let v60 : BitVec 32 := Scalar.addi v59 c1_i32_20
  let v61 : BitVec 32 := Scalar.subi v60 c1_i32_21
  let c1_i32_22 : BitVec 32 := 1#32
  let v63 : BitVec 32 := Scalar.divsi v61 c1_i32_22
  let v64 : BitVec 32 := Scalar.muli v63 c1_i32_22
  let v65 : BitVec 32 := Scalar.addi c1_i32_21 v64
  let v62 : BitVec 32 := Scalar.addi c1_i32_21 v61
  let c1_i32_24 : BitVec 32 := 1#32
  ⟨v65, v62, c1_i32_24⟩
def k0_mult8 (v18 : BitVec 32) (v20 : BitVec 32) (k0_t4 : Fin (k0_t4_loop v18 v20).trips) : BitVec 32 :=
  let c1_i32_21 : BitVec 32 := 1#32
  let v42 : BitVec 32 := Scalar.subi v20 v18
  let c0_i32_15 : BitVec 32 := 0#32
  let v44 : BitVec 1 := Scalar.cmpi .sgt v42 c0_i32_15
  let v45 : BitVec 32 := Scalar.extui v44
  let c0_i32_16 : BitVec 32 := 0#32
  let v46 : BitVec 1 := Scalar.cmpi .slt v42 c0_i32_16
  let v47 : BitVec 32 := Scalar.extui v46
  let v48 : BitVec 32 := Scalar.subi v45 v47
  let c32_i32 : BitVec 32 := 32#32
  let c0_i32_17 : BitVec 32 := 0#32
  let v49 : BitVec 1 := Scalar.cmpi .sgt c32_i32 c0_i32_17
  let v50 : BitVec 32 := Scalar.extui v49
  let c0_i32_18 : BitVec 32 := 0#32
  let v51 : BitVec 1 := Scalar.cmpi .slt c32_i32 c0_i32_18
  let v52 : BitVec 32 := Scalar.extui v51
  let v53 : BitVec 32 := Scalar.subi v50 v52
  let v54 : BitVec 1 := Scalar.cmpi .ne v48 v53
  let v55 : BitVec 32 := Scalar.remsi v42 c32_i32
  let c0_i32_19 : BitVec 32 := 0#32
  let v56 : BitVec 1 := Scalar.cmpi .ne v55 c0_i32_19
  let v57 : BitVec 1 := Scalar.andi v54 v56
  let v43 : BitVec 32 := Scalar.divsi v42 c32_i32
  let c1_i32 : BitVec 32 := 1#32
  let v58 : BitVec 32 := Scalar.subi v43 c1_i32
  let v59 : BitVec 32 := Scalar.select v57 v58 v43
  let c1_i32_20 : BitVec 32 := 1#32
  let v60 : BitVec 32 := Scalar.addi v59 c1_i32_20
  let v61 : BitVec 32 := Scalar.subi v60 c1_i32_21
  let c1_i32_22 : BitVec 32 := 1#32
  let v63 : BitVec 32 := Scalar.divsi v61 c1_i32_22
  let v64 : BitVec 32 := Scalar.muli v63 c1_i32_22
  let v65 : BitVec 32 := Scalar.addi c1_i32_21 v64
  let c1_i32_24 : BitVec 32 := 1#32
  let arg20 : BitVec 32 := Scf.iv v65 c1_i32_24 k0_t4
  let c32_i32_35 : BitVec 32 := 32#32
  let v82 : BitVec 32 := Scalar.muli arg20 c32_i32_35
  let v83 : BitVec 32 := Scalar.addi v18 v82
  v83
def k0_off12 (v18 : BitVec 32) (v20 : BitVec 32) (k0_t4 : Fin (k0_t4_loop v18 v20).trips) : Fin 3 → Nat :=
  let c0_37 : Index := 0#32
  let c1_i32_21 : BitVec 32 := 1#32
  let v42 : BitVec 32 := Scalar.subi v20 v18
  let c0_i32_15 : BitVec 32 := 0#32
  let v44 : BitVec 1 := Scalar.cmpi .sgt v42 c0_i32_15
  let v45 : BitVec 32 := Scalar.extui v44
  let c0_i32_16 : BitVec 32 := 0#32
  let v46 : BitVec 1 := Scalar.cmpi .slt v42 c0_i32_16
  let v47 : BitVec 32 := Scalar.extui v46
  let v48 : BitVec 32 := Scalar.subi v45 v47
  let c32_i32 : BitVec 32 := 32#32
  let c0_i32_17 : BitVec 32 := 0#32
  let v49 : BitVec 1 := Scalar.cmpi .sgt c32_i32 c0_i32_17
  let v50 : BitVec 32 := Scalar.extui v49
  let c0_i32_18 : BitVec 32 := 0#32
  let v51 : BitVec 1 := Scalar.cmpi .slt c32_i32 c0_i32_18
  let v52 : BitVec 32 := Scalar.extui v51
  let v53 : BitVec 32 := Scalar.subi v50 v52
  let v54 : BitVec 1 := Scalar.cmpi .ne v48 v53
  let v55 : BitVec 32 := Scalar.remsi v42 c32_i32
  let c0_i32_19 : BitVec 32 := 0#32
  let v56 : BitVec 1 := Scalar.cmpi .ne v55 c0_i32_19
  let v57 : BitVec 1 := Scalar.andi v54 v56
  let v43 : BitVec 32 := Scalar.divsi v42 c32_i32
  let c1_i32 : BitVec 32 := 1#32
  let v58 : BitVec 32 := Scalar.subi v43 c1_i32
  let v59 : BitVec 32 := Scalar.select v57 v58 v43
  let c1_i32_20 : BitVec 32 := 1#32
  let v60 : BitVec 32 := Scalar.addi v59 c1_i32_20
  let v61 : BitVec 32 := Scalar.subi v60 c1_i32_21
  let c1_i32_22 : BitVec 32 := 1#32
  let v63 : BitVec 32 := Scalar.divsi v61 c1_i32_22
  let v64 : BitVec 32 := Scalar.muli v63 c1_i32_22
  let v65 : BitVec 32 := Scalar.addi c1_i32_21 v64
  let c1_i32_24 : BitVec 32 := 1#32
  let arg20 : BitVec 32 := Scf.iv v65 c1_i32_24 k0_t4
  let c32_i32_35 : BitVec 32 := 32#32
  let v82 : BitVec 32 := Scalar.muli arg20 c32_i32_35
  let v83 : BitVec 32 := Scalar.addi v18 v82
  let v95 : BitVec 32 := v83
  let v96 : Index := Scalar.indexCast v95
  let c0_38 : Index := 0#32
  ![0, v96.toNat, 0]

def k0_chk4 (i : grid0.Coords) (v18 : BitVec 32) (v20 : BitVec 32) : Prop :=
  (∀ (k0_h4 : k0_cond4 i = 1#1), (k0_t3_loop v18 v20).OK) ∧
  (∀ k0_t3 : Fin (k0_t3_loop v18 v20).trips, ∀ (k0_h4 : k0_cond4 i = 1#1), 16 ∣ (k0_mult7 v18 v20 k0_t3).toNat) ∧
  (∀ k0_t3 : Fin (k0_t3_loop v18 v20).trips, ∀ (k0_h4 : k0_cond4 i = 1#1), ∀ a, (k0_off11 v18 v20 k0_t3) a + S64x32x128.size a ≤ S64x288x128.size a) ∧
  (∀ (k0_h4 : k0_cond4 i = 1#1), (k0_t4_loop v18 v20).OK) ∧
  (∀ k0_t4 : Fin (k0_t4_loop v18 v20).trips, ∀ (k0_h4 : k0_cond4 i = 1#1), 16 ∣ (k0_mult8 v18 v20 k0_t4).toNat) ∧
  (∀ k0_t4 : Fin (k0_t4_loop v18 v20).trips, ∀ (k0_h4 : k0_cond4 i = 1#1), ∀ a, (k0_off12 v18 v20 k0_t4) a + S64x32x128.size a ≤ S64x288x128.size a)
theorem k0_t3_ok : ∀ (i : grid0.Coords) (v18 : BitVec 32) (v20 : BitVec 32) (k0_hw4 : k0_chk4 i v18 v20), ∀ (k0_h4 : k0_cond4 i = 1#1), (k0_t3_loop v18 v20).OK := fun i v18 v20 k0_hw4 k0_h4 => k0_hw4.1 k0_h4
theorem k0_mult7_dvd : ∀ (i : grid0.Coords) (v18 : BitVec 32) (v20 : BitVec 32) (k0_hw4 : k0_chk4 i v18 v20) (k0_t3 : Fin (k0_t3_loop v18 v20).trips), ∀ (k0_h4 : k0_cond4 i = 1#1), 16 ∣ (k0_mult7 v18 v20 k0_t3).toNat := fun i v18 v20 k0_hw4 k0_t3 k0_h4 => k0_hw4.2.1 k0_t3 k0_h4
theorem k0_off11_inb : ∀ (i : grid0.Coords) (v18 : BitVec 32) (v20 : BitVec 32) (k0_hw4 : k0_chk4 i v18 v20) (k0_t3 : Fin (k0_t3_loop v18 v20).trips), ∀ (k0_h4 : k0_cond4 i = 1#1), ∀ a, (k0_off11 v18 v20 k0_t3) a + S64x32x128.size a ≤ S64x288x128.size a := fun i v18 v20 k0_hw4 k0_t3 k0_h4 => k0_hw4.2.2.1 k0_t3 k0_h4
theorem k0_t4_ok : ∀ (i : grid0.Coords) (v18 : BitVec 32) (v20 : BitVec 32) (k0_hw4 : k0_chk4 i v18 v20), ∀ (k0_h4 : k0_cond4 i = 1#1), (k0_t4_loop v18 v20).OK := fun i v18 v20 k0_hw4 k0_h4 => k0_hw4.2.2.2.1 k0_h4
theorem k0_mult8_dvd : ∀ (i : grid0.Coords) (v18 : BitVec 32) (v20 : BitVec 32) (k0_hw4 : k0_chk4 i v18 v20) (k0_t4 : Fin (k0_t4_loop v18 v20).trips), ∀ (k0_h4 : k0_cond4 i = 1#1), 16 ∣ (k0_mult8 v18 v20 k0_t4).toNat := fun i v18 v20 k0_hw4 k0_t4 k0_h4 => k0_hw4.2.2.2.2.1 k0_t4 k0_h4
theorem k0_off12_inb : ∀ (i : grid0.Coords) (v18 : BitVec 32) (v20 : BitVec 32) (k0_hw4 : k0_chk4 i v18 v20) (k0_t4 : Fin (k0_t4_loop v18 v20).trips), ∀ (k0_h4 : k0_cond4 i = 1#1), ∀ a, (k0_off12 v18 v20 k0_t4) a + S64x32x128.size a ≤ S64x288x128.size a := fun i v18 v20 k0_hw4 k0_t4 k0_h4 => k0_hw4.2.2.2.2.2 k0_t4 k0_h4

def cc0_transform_0 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 3 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 3 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_3 (i : grid0.Coords) : Fin 3 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_4 (i : grid0.Coords) : Fin 3 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x400 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x400x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S400x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S10000x128 : Shape := ⟨2, ![10000, 128]⟩
abbrev S10000x32 : Shape := ⟨2, ![10000, 32]⟩
abbrev S10000 : Shape := ⟨1, ![10000]⟩
abbrev S32x8 : Shape := ⟨2, ![32, 8]⟩
abbrev S128x128 : Shape := ⟨2, ![128, 128]⟩
abbrev S128 : Shape := ⟨1, ![128]⟩
abbrev S128x8 : Shape := ⟨2, ![128, 8]⟩
abbrev S_ : Shape := ⟨0, ![]⟩
abbrev S10000x1 : Shape := ⟨2, ![10000, 1]⟩
abbrev S1x128 : Shape := ⟨2, ![1, 128]⟩
abbrev S10000x32x1 : Shape := ⟨3, ![10000, 32, 1]⟩
abbrev S10000x1x128 : Shape := ⟨3, ![10000, 1, 128]⟩
abbrev S10000x32x128 : Shape := ⟨3, ![10000, 32, 128]⟩
abbrev S256x32x128 : Shape := ⟨3, ![256, 32, 128]⟩
abbrev S8x128 : Shape := ⟨2, ![8, 128]⟩
abbrev S32x128 : Shape := ⟨2, ![32, 128]⟩
abbrev S1x32x128 : Shape := ⟨3, ![1, 32, 128]⟩

abbrev nBuf : Space → Nat
  | .hbm => 157
  | .vmem => 0
  | .smem => 0
  | _ => 0

abbrev hbmTy0_0 (i : Nat) : BufTy := match i % 128 with
  | 0 => ⟨S10000x128, .f32⟩
  | 1 => ⟨S10000x32, .f32⟩
  | 2 => ⟨S10000x32, .f32⟩
  | 3 => ⟨S10000, .i32⟩
  | 4 => ⟨S32x8, .f32⟩
  | 5 => ⟨S128x128, .f32⟩
  | 6 => ⟨S128x128, .f32⟩
  | 7 => ⟨S128, .f32⟩
  | 8 => ⟨S128, .f32⟩
  | 9 => ⟨S128x8, .f32⟩
  | 10 => ⟨S128x128, .f32⟩
  | 11 => ⟨S128x128, .f32⟩
  | 12 => ⟨S128x128, .f32⟩
  | 13 => ⟨S10000x128, .f32⟩
  | 14 => ⟨S10000x128, .f32⟩
  | 15 => ⟨S10000x128, .f32⟩
  | 16 => ⟨S_, .f32⟩
  | 17 => ⟨S10000x128, .f32⟩
  | 18 => ⟨S10000x128, .f32⟩
  | 19 => ⟨S_, .f32⟩
  | 20 => ⟨S10000x128, .f32⟩
  | 21 => ⟨S10000x128, .f32⟩
  | 22 => ⟨S10000x128, .f32⟩
  | 23 => ⟨S128x128, .f32⟩
  | 24 => ⟨S10000x128, .f32⟩
  | 25 => ⟨S10000x128, .f32⟩
  | 26 => ⟨S10000x128, .f32⟩
  | 27 => ⟨S_, .f32⟩
  | 28 => ⟨S10000x128, .f32⟩
  | 29 => ⟨S10000x128, .f32⟩
  | 30 => ⟨S_, .f32⟩
  | 31 => ⟨S10000x128, .f32⟩
  | 32 => ⟨S10000x128, .f32⟩
  | 33 => ⟨S10000x128, .f32⟩
  | 34 => ⟨S10000x128, .f32⟩
  | 35 => ⟨S_, .f32⟩
  | 36 => ⟨S10000, .f32⟩
  | 37 => ⟨S10000x1, .f32⟩
  | 38 => ⟨S_, .f32⟩
  | 39 => ⟨S10000x1, .f32⟩
  | 40 => ⟨S10000x1, .f32⟩
  | 41 => ⟨S_, .i32⟩
  | 42 => ⟨S_, .f32⟩
  | 43 => ⟨S10000, .f32⟩
  | 44 => ⟨S10000x1, .f32⟩
  | 45 => ⟨S_, .f32⟩
  | 46 => ⟨S10000x1, .f32⟩
  | 47 => ⟨S10000x1, .f32⟩
  | 48 => ⟨S10000x128, .f32⟩
  | 49 => ⟨S10000x128, .f32⟩
  | 50 => ⟨S10000x128, .f32⟩
  | 51 => ⟨S_, .f32⟩
  | 52 => ⟨S_, .f32⟩
  | 53 => ⟨S_, .f32⟩
  | 54 => ⟨S_, .f32⟩
  | 55 => ⟨S10000, .f32⟩
  | 56 => ⟨S10000x1, .f32⟩
  | 57 => ⟨S10000x1, .f32⟩
  | 58 => ⟨S10000x1, .f32⟩
  | 59 => ⟨S_, .f32⟩
  | 60 => ⟨S_, .i1⟩
  | 61 => ⟨S_, .f32⟩
  | 62 => ⟨S_, .f32⟩
  | 63 => ⟨S10000x1, .f32⟩
  | 64 => ⟨S10000x1, .f32⟩
  | 65 => ⟨S10000x128, .f32⟩
  | 66 => ⟨S10000x128, .f32⟩
  | 67 => ⟨S_, .f32⟩
  | 68 => ⟨S10000x1, .f32⟩
  | 69 => ⟨S10000x1, .f32⟩
  | 70 => ⟨S10000x1, .f32⟩
  | 71 => ⟨S10000x128, .f32⟩
  | 72 => ⟨S10000x128, .f32⟩
  | 73 => ⟨S1x128, .f32⟩
  | 74 => ⟨S10000x128, .f32⟩
  | 75 => ⟨S10000x128, .f32⟩
  | 76 => ⟨S1x128, .f32⟩
  | 77 => ⟨S10000x128, .f32⟩
  | 78 => ⟨S10000x128, .f32⟩
  | 79 => ⟨S10000x32, .f32⟩
  | 80 => ⟨S10000x32, .f32⟩
  | 81 => ⟨S10000x32x1, .f32⟩
  | 82 => ⟨S10000x32, .f32⟩
  | 83 => ⟨S10000x32, .f32⟩
  | 84 => ⟨S10000x32x1, .f32⟩
  | 85 => ⟨S10000x1x128, .f32⟩
  | 86 => ⟨S10000x32x128, .f32⟩
  | 87 => ⟨S10000x32x128, .f32⟩
  | 88 => ⟨S10000x32x128, .f32⟩
  | 89 => ⟨S10000x1x128, .f32⟩
  | 90 => ⟨S10000x32x128, .f32⟩
  | 91 => ⟨S10000x32x128, .f32⟩
  | 92 => ⟨S10000x32x128, .f32⟩
  | 93 => ⟨S_, .f32⟩
  | 94 => ⟨S256x32x128, .f32⟩
  | 95 => ⟨S10000x1, .i32⟩
  | 96 => ⟨S256x32x128, .f32⟩
  | 97 => ⟨S_, .f32⟩
  | 98 => ⟨S256x32x128, .f32⟩
  | 99 => ⟨S10000x1, .i32⟩
  | 100 => ⟨S256x32x128, .f32⟩
  | 101 => ⟨S8x128, .f32⟩
  | 102 => ⟨S32x128, .f32⟩
  | 103 => ⟨S1x32x128, .f32⟩
  | 104 => ⟨S256x32x128, .f32⟩
  | 105 => ⟨S256x32x128, .f32⟩
  | 106 => ⟨S_, .i32⟩
  | 107 => ⟨S10000, .i32⟩
  | 108 => ⟨S10000, .i1⟩
  | 109 => ⟨S_, .i32⟩
  | 110 => ⟨S10000, .i32⟩
  | 111 => ⟨S10000, .i32⟩
  | 112 => ⟨S10000, .i32⟩
  | 113 => ⟨S10000x1, .i32⟩
  | 114 => ⟨S10000x32x128, .f32⟩
  | 115 => ⟨S256x32x128, .f32⟩
  | 116 => ⟨S256x32x128, .f32⟩
  | 117 => ⟨S_, .i32⟩
  | 118 => ⟨S10000, .i32⟩
  | 119 => ⟨S10000, .i1⟩
  | 120 => ⟨S_, .i32⟩
  | 121 => ⟨S10000, .i32⟩
  | 122 => ⟨S10000, .i32⟩
  | 123 => ⟨S10000, .i32⟩
  | 124 => ⟨S10000x1, .i32⟩
  | 125 => ⟨S10000x32x128, .f32⟩
  | 126 => ⟨S10000x32x128, .f32⟩
  | 127 => ⟨S10000x32x128, .f32⟩
  | _ => ⟨S10000x128, .f32⟩

abbrev hbmTy0_1 (i : Nat) : BufTy := match i % 128 with
  | 0 => ⟨S10000x32x128, .f32⟩
  | 1 => ⟨S10000x32x128, .f32⟩
  | 2 => ⟨S10000x32x128, .f32⟩
  | 3 => ⟨S_, .f32⟩
  | 4 => ⟨S10000x128, .f32⟩
  | 5 => ⟨S10000x128, .f32⟩
  | 6 => ⟨S128x128, .f32⟩
  | 7 => ⟨S10000x128, .f32⟩
  | 8 => ⟨S10000x128, .f32⟩
  | 9 => ⟨S10000x128, .f32⟩
  | 10 => ⟨S_, .f32⟩
  | 11 => ⟨S10000x128, .f32⟩
  | 12 => ⟨S10000x128, .f32⟩
  | 13 => ⟨S_, .f32⟩
  | 14 => ⟨S10000x128, .f32⟩
  | 15 => ⟨S10000x128, .f32⟩
  | 16 => ⟨S10000x128, .f32⟩
  | 17 => ⟨S128x128, .f32⟩
  | 18 => ⟨S10000x128, .f32⟩
  | 19 => ⟨S10000x128, .f32⟩
  | 20 => ⟨S10000x128, .f32⟩
  | 21 => ⟨S_, .f32⟩
  | 22 => ⟨S10000x128, .f32⟩
  | 23 => ⟨S10000x128, .f32⟩
  | 24 => ⟨S_, .f32⟩
  | 25 => ⟨S10000x128, .f32⟩
  | 26 => ⟨S10000x128, .f32⟩
  | 27 => ⟨S10000x128, .f32⟩
  | 28 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_v12 : Ref sig .tc := ⟨.hbm, 58, rfl⟩
abbrev main_call0_cst_3 : Ref sig .tc := ⟨.hbm, 59, rfl⟩
abbrev main_call0_v13 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_5 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_6 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_7 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_c_8 : Ref sig .tc := ⟨.hbm, 106, rfl⟩
abbrev main_v62 : Ref sig .tc := ⟨.hbm, 107, rfl⟩
abbrev main_v63 : Ref sig .tc := ⟨.hbm, 108, rfl⟩
abbrev main_c_9 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_c_10 : Ref sig .tc := ⟨.hbm, 117, rfl⟩
abbrev main_v71 : Ref sig .tc := ⟨.hbm, 118, rfl⟩
abbrev main_v72 : Ref sig .tc := ⟨.hbm, 119, rfl⟩
abbrev main_c_11 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_12 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_13 : Ref sig .tc := ⟨.hbm, 138, rfl⟩
abbrev main_v89 : Ref sig .tc := ⟨.hbm, 139, rfl⟩
abbrev main_v90 : Ref sig .tc := ⟨.hbm, 140, rfl⟩
abbrev main_cst_14 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_15 : Ref sig .tc := ⟨.hbm, 149, rfl⟩
abbrev main_v98 : Ref sig .tc := ⟨.hbm, 150, rfl⟩
abbrev main_v99 : Ref sig .tc := ⟨.hbm, 151, rfl⟩
abbrev main_cst_16 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩

abbrev nD : Nat := 1
abbrev τ : Topo := Topo.v7x

variable {F : FTy → Type} [FloatOps F]
-- ==== Proof.Sorted.lean ====
/-
  The precondition, read: every segment number lies in `[0, 256)`, and the numbers don't decrease.
-/
module

public import proofs.«01_k».proof.Pre_sorted_ids
public import Idealize.ShloMosaic.Lib.Pointwise
public import Idealize.ShloMosaic.Lib.Tactic.WordOmega

@[expose] public section

set_option maxRecDepth 16384

noncomputable section

namespace Cert.Hand

open Cert.Pre_sorted_ids
open Idealize.ShloMosaic

/-- The shape relations that the precondition's function takes. -/
theorem preFacts : Cert.Pre_sorted_ids.Facts where
  slices_S10000_S9999_1 := by decide
  slices_S10000_S1_9999 := by decide
  concatenates_S9999_S1_S10000_d0 := by decide
  bcast_S_S10000 := by decide

/-- The segment numbers lie in `[0, 256)` and don't decrease. -/
structure Sorted (b : IVec S10000 32) : Prop where
  lt : ∀ n : Fin 10000, (b (ix1 n)).toNat < 256
  step : ∀ n : Fin 10000, ∀ h : n.val + 1 < 10000, (b (ix1 n)).toNat ≤ (b (ix1 ⟨n.val + 1, h⟩)).toNat

/-- A word between 0 and 256, read as a signed number, is below 256. -/
theorem toNat_lt_of (x : BitVec 32) (h0 : IntOp.cmpi .sge x 0#32 = 1#1) (h1 : IntOp.cmpi .slt x 256#32 = 1#1) : x.toNat < 256 := by
  word_omega

/-- The signed order of two words below 256 is the order of the numbers. -/
theorem toNat_le_of (x y : BitVec 32) (hx : x.toNat < 256) (hy : y.toNat < 256) (h : IntOp.cmpi .sle x y = 1#1) : x.toNat ≤ y.toNat := by
  word_omega

theorem Sorted.mono {b : IVec S10000 32} (h : Sorted b) {n n' : Fin 10000} (hn : n ≤ n') : (b (ix1 n)).toNat ≤ (b (ix1 n')).toNat := by
  obtain ⟨n, hn1⟩ := n
  obtain ⟨n', hn2⟩ := n'
  have hn : n ≤ n' := hn
  induction n', hn using Nat.le_induction with
  | base => exact le_refl _
  | succ k hk ih => exact le_trans (ih (by omega) hk) (h.step ⟨k, by omega⟩ hn2)

/-- The precondition says that the segment numbers lie in `[0, 256)` and don't decrease. -/
theorem sorted_of_fn {F : FTy → Type} [FloatOps F] [Facts] (a0 : FVec F S10000x128 .f32) (a1 : FVec F S10000x32 .f32) (a2 : FVec F S10000x32 .f32)
    (b : IVec S10000 32) (a4 : FVec F S32x8 .f32) (a5 a6 : FVec F S128x128 .f32) (a7 a8 : FVec F S128 .f32) (a9 : FVec F S128x8 .f32) (a10 a11 : FVec F S128x128 .f32)
    (h : fn (F := F) a0 a1 a2 b a4 a5 a6 a7 a8 a9 a10 a11 = fun _ => 1#1) : Sorted b := by
  have key : ∀ n : Fin 10000, _ := fun n => congrFun h (ix1 n)
  pointwise [fn] at key
  have hand : ∀ p q : BitVec 1, IntOp.andi p q = 1#1 → p = 1#1 ∧ q = 1#1 := by decide
  have lt : ∀ n : Fin 10000, (b (ix1 n)).toNat < 256 := fun n =>
    toNat_lt_of _ (hand _ _ (hand _ _ (key n)).1).1 (hand _ _ (hand _ _ (key n)).1).2
  refine ⟨lt, fun n hn => ?_⟩
  have h2 := (hand _ _ (key n)).2
  rw [dif_pos (by omega)] at h2
  have e : (⟨1 + n.val, by omega⟩ : Fin 10000) = ⟨n.val + 1, hn⟩ := Fin.ext (Nat.add_comm _ _)
  rw [e] at h2
  exact toNat_le_of _ _ (lt n) (lt _) h2

end Cert.Hand

end
-- ==== Proof.Kernel.Frame.lean ====
/-
  Under the precondition the program runs, leaves its arguments as they were and every semaphore counter at zero.
-/
module

public import proofs.«01_k».proof.Proof.Kernel.Run
public import proofs.«01_k».proof.Proof.Kernel.Host
public import proofs.«01_k».proof.Proof.Kernel.Words
public import proofs.«01_k».proof.Proof.Sorted

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.Sem

variable {F : FTy → Type} [FloatOps F]

/-- A word of the table is its entry at the word's row and column. -/
theorem word_eq (T : Vec F S2x25 .i32) (o : Fin 2 → ℕ) (inb : ∀ a, o a + S1x1.size a ≤ S2x25.size a) (r : Fin 2) (j : Fin 25)
    (ho : o = ![r.val, j.val]) : word T o inb = T (ix2 r j) := by
  subst ho
  unfold word VecWindow.window
  congr 1
  funext a
  match a with
  | 0 => exact Fin.ext (by simp)
  | 1 => exact Fin.ext (by simp)

/-- The first row of the windows of chunk `j`, divided by 16. -/
def baseOf (b : IVec S10000 32) (hb : Cert.Hand.Sorted b) (j : Fin 25) : Fin 16 :=
  ⟨(b (ix1 ⟨400 * j.val, by omega⟩)).toNat / 16, by have := hb.lt ⟨400 * j.val, by omega⟩; omega⟩

/-- The last segment number of chunk `j`. -/
def lastOf (b : IVec S10000 32) (hb : Cert.Hand.Sorted b) (j : Fin 25) : Fin 256 :=
  ⟨(b (ix1 ⟨399 + 400 * j.val, by omega⟩)).toNat, hb.lt _⟩

theorem base_le_last (b : IVec S10000 32) (hb : Cert.Hand.Sorted b) (j : Fin 25) : 16 * (baseOf b hb j).val ≤ (lastOf b hb j).val := by
  have := hb.mono (n := ⟨400 * j.val, by omega⟩) (n' := ⟨399 + 400 * j.val, by omega⟩) (by show 400 * j.val ≤ 399 + 400 * j.val; omega)
  show 16 * ((b (ix1 ⟨400 * j.val, _⟩)).toNat / 16) ≤ (b (ix1 ⟨399 + 400 * j.val, _⟩)).toNat
  omega

variable (m : (ℓ : Loc nD τ sig) → Buf (Elt F) ℓ) (c : Dev nD)

theorem tab_base (hb : Cert.Hand.Sorted (batchOf m c)) (o : Fin 2 → ℕ) (inb : ∀ a, o a + S1x1.size a ≤ S2x25.size a) (j : Fin 25)
    (ho : o = ![0, j.val]) : word (tab (entryV m) c) o inb = baseW (baseOf _ hb j) := by
  rw [word_eq _ _ _ 0 j ho]
  exact (entry_tab0 m c j).trans (floor16_eq _ (hb.lt _))

theorem tab_last (hb : Cert.Hand.Sorted (batchOf m c)) (o : Fin 2 → ℕ) (inb : ∀ a, o a + S1x1.size a ≤ S2x25.size a) (j : Fin 25)
    (ho : o = ![1, j.val]) : word (tab (entryV m) c) o inb = lastW (lastOf _ hb j) := by
  rw [word_eq _ _ _ 1 j ho]
  refine (entry_tab1 m c j).trans ?_
  show _ = BitVec.ofNat 32 (batchOf m c (ix1 ⟨399 + 400 * j.val, _⟩)).toNat
  rw [BitVec.ofNat_toNat, BitVec.setWidth_eq]

/-- The precondition gives the side conditions at every point. -/
theorem checked (hb : Cert.Hand.Sorted (batchOf m c)) : Checked (tab (entryV m) c) where
  c1 i h2 := by
    rw [tab_base m c hb _ _ ⟨min (i 0).val 24, by omega⟩ (off2_eq i)]
    exact chk1_words i _
  c2 i h2 := by
    rw [tab_base m c hb _ _ ⟨min (i 0).val 24, by omega⟩ (off2_eq i), tab_last m c hb _ _ ⟨min (i 0).val 24, by omega⟩ (off3_eq i)]
    exact chk2_words i _ _ (base_le_last _ hb _)
  c3 i h4 := by
    have : (i 0).val < 50 := (i 0).isLt
    rw [tab_base m c hb _ _ ⟨(i 0).val - 25, by omega⟩ (off8_eq i)]
    exact chk3_words i _
  c4 i h4 := by
    have : (i 0).val < 50 := (i 0).isLt
    rw [tab_base m c hb _ _ ⟨(i 0).val - 25, by omega⟩ (off8_eq i), tab_last m c hb _ _ ⟨(i 0).val - 25, by omega⟩ (off9_eq i)]
    exact chk4_words i _ _ (base_le_last _ hb _)

/-- The run under the precondition. -/
theorem run_sorted (hb : ∀ c, Cert.Hand.Sorted (batchOf m c)) (ρ : Dev nD → PrngReg) :
    θ_run (defs (F := F)) (onTc (main (F := F))) ⟨m, fun _ => 0, ρ⟩
      fun r => Pipeline.RDat.FramePost (cf (entryV m)) (rdat (entryV m) fun c => checked m c (hb c)) (entryV m) r ∧ r.2.sem = fun _ => 0 :=
  run_post (entryV m) (fun c => checked m c (hb c)) m ρ (hmain m)

/-- What a run leaves in a buffer that is no window's array. -/
theorem rest_eq {hg : ∀ c, Checked (tab (entryV m) c)} {r : PUnit × MemSt nD τ sig (Elt F)} (h : Pipeline.RDat.FramePost (cf (entryV m)) (rdat (entryV m) hg) (entryV m) r)
    (b : Ref sig .tc) (hs : b.isScoped = false) (ha : ∀ w, (spec0 w).arr.view.ref ≠ b) :
    r.2.mem ((c.tc : Thread nD τ).loc b) = entryV m c b :=
  (h c).2 b (Pipeline.mem_restRefs_of b hs ha)

/-- The arguments are left as they were, and the counters are at zero. -/
theorem frame_sorted (hb : ∀ c, Cert.Hand.Sorted (batchOf m c)) (ρ : Dev nD → PrngReg) :
    θ_run (defs (F := F)) (onTc (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0 :=
  (θ_run defs _ _).mono (fun r h => ⟨fun c =>
    ⟨(h.1.arr_in c 0 rfl).trans (entry_arg0 m c),
     (rest_eq m c h.1 main_arg1 rfl (by decide +kernel)).trans (entry_arg1 m c),
     (rest_eq m c h.1 main_arg2 rfl (by decide +kernel)).trans (entry_arg2 m c),
     (rest_eq m c h.1 main_arg3 rfl (by decide +kernel)).trans (entry_arg3 m c),
     (rest_eq m c h.1 main_arg4 rfl (by decide +kernel)).trans (entry_arg4 m c),
     (rest_eq m c h.1 main_arg5 rfl (by decide +kernel)).trans (entry_arg5 m c),
     (rest_eq m c h.1 main_arg6 rfl (by decide +kernel)).trans (entry_arg6 m c),
     (rest_eq m c h.1 main_arg7 rfl (by decide +kernel)).trans (entry_arg7 m c),
     (rest_eq m c h.1 main_arg8 rfl (by decide +kernel)).trans (entry_arg8 m c),
     (rest_eq m c h.1 main_arg9 rfl (by decide +kernel)).trans (entry_arg9 m c),
     (rest_eq m c h.1 main_arg10 rfl (by decide +kernel)).trans (entry_arg10 m c),
     (rest_eq m c h.1 main_arg11 rfl (by decide +kernel)).trans (entry_arg11 m c)⟩, h.2⟩) (run_sorted m hb ρ)

end Cert.Kernel.Hand

end
-- ==== Proof.KernelIdeal.Body.lean ====
/-
  The kernel's body at one grid point, as a Hoare triple in four cases: the first point, a later point of the first
  phase, the last point of that phase, and a point of the second phase. What each buffer holds afterwards is stated as
  what a load of it reads, in terms of the pure functions `scatter`, `coefs` and `gathered` below.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.LoopRemainder
public import Idealize.ShloMosaic.Lib.VecWindow
public import Idealize.ShloMosaic.Lib.Tactic
public import Idealize.ShloMosaic.Lib.Tactic.Stretches

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ### What a point computes -/

/-- The word of the table at the offsets `o`. -/
def word (T : Vec F S2x25 .i32) (o : Fin 2 → ℕ) (inb : ∀ a, o a + S1x1.size a ≤ S2x25.size a) : Elt F .i32 :=
  VecWindow.window T o S1x1.size inb (Shape.Idx.first (s := S1x1) (numel1_S1x1.symm ▸ Nat.one_pos))

/-- The segment sums after the first `n` trips of the scatter's loop: trip `k` adds its product to the window of 32
    rows that it names. -/
def scatterLoop (i : grid0.Coords) (h2 : k0_cond2 i = 1#1) (v48 : FVec F S400x128 .bf16) (v70 : FVec F S2048x400 .bf16)
    (v72 : IVec S1x400 32) (v74 v76 : Elt F .i32) (hw : k0_chk2 i v74 v76) (A : Vec F S64x288x128 .f32) :
    ℕ → Vec F S64x288x128 .f32
  | 0 => A
  | n + 1 =>
    if h : n < (k0_t1_loop v74 v76).trips then
      VecWindow.put (scatterLoop i h2 v48 v70 v72 v74 v76 hw A n) (k0_off5 v74 v76 ⟨n, h⟩) S64x32x128.size
        (k0_pay3 v48 v70 v72 v74 v76 ⟨n, h⟩
          (VecWindow.window (scatterLoop i h2 v48 v70 v72 v74 v76 hw A n) (k0_off5 v74 v76 ⟨n, h⟩) S64x32x128.size
            (k0_off5_inb i v74 v76 hw ⟨n, h⟩ h2)))
    else scatterLoop i h2 v48 v70 v72 v74 v76 hw A n

/-- The update of the first window: the point's product added to the 32 rows from the table's first word. -/
def scatterFirst (i : grid0.Coords) (h2 : k0_cond2 i = 1#1) (v74 : Elt F .i32) (hw : k0_chk1 i v74)
    (v87 : FVec F S2048x128 .f32) (A : Vec F S64x288x128 .f32) : Vec F S64x288x128 .f32 :=
  VecWindow.put A (k0_off4 v74) S64x32x128.size
    (k0_pay2 v87 (VecWindow.window A (k0_off4 v74) S64x32x128.size (k0_off4_inb i v74 hw h2)))

/-- A point of the first phase, on the segment sums: from the blocks of `x`, of the two coefficient arrays and of the
    ids, the weights, the selector and the two table words. -/
def scatter (i : grid0.Coords) (h2 : k0_cond2 i = 1#1) (v74 v76 : Elt F .i32) (hw1 : k0_chk1 i v74) (hw2 : k0_chk2 i v74 v76)
    (x2 : Vec F S400x128 .f32) (x3 x4 : Vec F S1x32x400 .f32) (x5 : Vec F S1x1x400 .i32) (x7 x8 : Vec F S128x128 .f32)
    (x9 x10 : Vec F S1x128 .f32) (x12 : Vec F S2048x64 .bf16) (A : Vec F S64x288x128 .f32) : Vec F S64x288x128 .f32 :=
  scatterLoop i h2 (k0_pay9 x2 x7 x8 x9 x10) (k0_pay12 x4 x3 x12) (k0_pay13 x5) v74 v76 hw2
    (scatterFirst i h2 v74 hw1 (k0_pay14 (k0_pay9 x2 x7 x8 x9 x10) x4 x3 x12 x5 v74) A) (k0_t1_loop v74 v76).trips

/-- A point of the first phase, on the kept coefficients: its 400 rows. -/
def coefs (i : grid0.Coords) (x3 x4 : Vec F S1x32x400 .f32) (C : Vec F S10000x64 .bf16) : Vec F S10000x64 .bf16 :=
  VecWindow.put C (k0_off1 i) S400x64.size (k0_pay11 x4 x3)

/-- The gathered sums after the first `n` trips of the second phase's loop. -/
def gatherLoop (i : grid0.Coords) (h4 : k0_cond4 i = 1#1) (v16 : IVec S400x1 32) (v18 v20 : Elt F .i32) (hw : k0_chk4 i v18 v20)
    (v24 : FVec F S400x2048 .bf16) (v25 : IVec S400x128 32) (B : Vec F S64x288x128 .bf16) (acc : FVec F S400x128 .f32) :
    ℕ → FVec F S400x128 .f32
  | 0 => acc
  | n + 1 =>
    if h : n < (k0_t3_loop v18 v20).trips then
      k0_pay6 v16 v18 v20 v24 v25 ⟨n, h⟩ (gatherLoop i h4 v16 v18 v20 hw v24 v25 B acc n)
        (VecWindow.window B (k0_off11 v18 v20 ⟨n, h⟩) S64x32x128.size (k0_off11_inb i v18 v20 hw ⟨n, h⟩ h4))
    else gatherLoop i h4 v16 v18 v20 hw v24 v25 B acc n

/-- A point of the second phase: the gathered sums of its 400 rows, from the kept coefficients and the filtered sums. -/
def gathered (i : grid0.Coords) (h4 : k0_cond4 i = 1#1) (v18 v20 : Elt F .i32) (hw3 : k0_chk3 i v18) (hw4 : k0_chk4 i v18 v20)
    (x6 : Vec F S1x400x1 .i32) (x13 : Vec F S64x2048 .bf16) (B : Vec F S64x288x128 .bf16) (C : Vec F S10000x64 .bf16) :
    FVec F S400x128 .f32 :=
  gatherLoop i h4 (k0_pay15 x6) v18 v20 hw4
    (k0_pay16 (VecWindow.window C (k0_off7 i) S400x64.size (k0_off7_inb i h4)) x13)
    (iota .tc S400x128 32 [1] iota_S400x128_d1_w32) B
    (k0_pay17 (VecWindow.window C (k0_off7 i) S400x64.size (k0_off7_inb i h4)) x6 v18 x13
      (VecWindow.window B (k0_off10 v18) S64x32x128.size (k0_off10_inb i v18 hw3 h4)))
    (k0_t3_loop v18 v20).trips

/-- A point of the second phase: the block of the result. -/
def updated (i : grid0.Coords) (h4 : k0_cond4 i = 1#1) (v18 v20 : Elt F .i32) (hw3 : k0_chk3 i v18) (hw4 : k0_chk4 i v18 v20)
    (x2 : Vec F S400x128 .f32) (x6 : Vec F S1x400x1 .i32) (x13 : Vec F S64x2048 .bf16) (x14 x15 : Vec F S128x128 .f32)
    (B : Vec F S64x288x128 .bf16) (C : Vec F S10000x64 .bf16) : FVec F S400x128 .f32 :=
  k0_pay8 (gathered i h4 v18 v20 hw3 hw4 x6 x13 B C) x2 x14 x15

/-! ### The loops -/

/-- A memref's buffer held, at a share. -/
abbrev held (c : Dev nD) {sp : Space} {s : Shape} {e : EltTy} (m : Memref sig .tc sp s e) (q : PosShare TreeShare) (f : BufTy.Contents (Elt F) m.view.ty) : sProp 𝕄 :=
  iprop(m.view.loc (c : Thread nD τ) ↦[m.view.set]{q} f)

set_option warn.classDefReducibility false in
/-- The scatter's loop: before trip `k` a load of the segment sums reads `scatterLoop … k`. -/
@[sl_loop] def scatterInv (𝒱 : Variants) (c : Dev nD) (bd : Option 𝒱.V) (E : Set ℕ) (i : grid0.Coords) (arg1 : Memref sig .tc .smem S2x25 .i32) (harg1 : arg1.IsWhole) (arg2 : Memref sig .tc .vmem S400x128 .f32) (harg2 : arg2.IsWhole) (arg3 : Memref sig .tc .vmem S1x32x400 .f32) (harg3 : arg3.IsWhole) (arg4 : Memref sig .tc .vmem S1x32x400 .f32) (harg4 : arg4.IsWhole) (arg5 : Memref sig .tc .vmem S1x1x400 .i32) (harg5 : arg5.IsWhole) (arg6 : Memref sig .tc .vmem S1x400x1 .i32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S64x1x128 .f32) (harg11 : arg11.IsWhole) (arg12 : Memref sig .tc .vmem S2048x64 .bf16) (harg12 : arg12.IsWhole) (arg13 : Memref sig .tc .vmem S64x2048 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S400x128 .f32) (harg16 : arg16.IsWhole) (arg17 : Memref sig .tc .vmem S64x288x128 .f32) (harg17 : arg17.IsWhole) (arg18 : Memref sig .tc .vmem S64x288x128 .bf16) (harg18 : arg18.IsWhole) (arg19 : Memref sig .tc .vmem S10000x64 .bf16) (harg19 : arg19.IsWhole)
    (k0_h2 : k0_cond2 i = 1#1) (v48 : FVec F S400x128 .bf16) (v70 : FVec F S2048x400 .bf16) (v72 : IVec S1x400 32) (v74 : Elt F .i32) (v76 : Elt F .i32)
    (k0_hw2 : k0_chk2 i v74 v76) (G : BufTy.Contents (Elt F) arg17.view.ty) :
    Idealize.ShloMosaic.LoopInv (M := 𝕄) Idealize.ShloMosaic.frame (wpE (defs₀ (F := F)) 𝒱 (c : Thread nD τ) bd) E
      (k0_t1_loop v74 v76).lb (k0_t1_loop v74 v76).ub (k0_t1_loop v74 v76).st (k0_t1_ok i v74 v76 k0_hw2 k0_h2) ()
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v48 v70 v72 v74 v76 k0_hw2) where
  inv k _ := iprop(∃ f, held c arg17 fullShare f
    ∗ ⌜arg17.view.read (Elt F) f = scatterLoop i k0_h2 v48 v70 v72 v74 v76 k0_hw2 (arg17.view.read (Elt F) G) k⌝)
  step k acc := by
    iintro ⟨%f, H, %h⟩
    unfold k0_t1_body
    sl_exec
    sl_step
    iexists _; isplitl [H]; · iexact H
    ipureintro
    rw [View.read_writes_cons_put arg17.view f _ _ [] rfl, View.writes_nil, h]
    rw [show scatterLoop i k0_h2 v48 v70 v72 v74 v76 k0_hw2 (arg17.view.read (Elt F) G) (k.val + 1) = _ from dif_pos k.isLt, ← h]
    rfl

set_option warn.classDefReducibility false in
/-- The gather's loop: the filtered sums stay, the carried sum before trip `k` is `gatherLoop … k`. -/
@[sl_loop] def gatherInv (𝒱 : Variants) (c : Dev nD) (bd : Option 𝒱.V) (E : Set ℕ) (i : grid0.Coords) (arg1 : Memref sig .tc .smem S2x25 .i32) (harg1 : arg1.IsWhole) (arg2 : Memref sig .tc .vmem S400x128 .f32) (harg2 : arg2.IsWhole) (arg3 : Memref sig .tc .vmem S1x32x400 .f32) (harg3 : arg3.IsWhole) (arg4 : Memref sig .tc .vmem S1x32x400 .f32) (harg4 : arg4.IsWhole) (arg5 : Memref sig .tc .vmem S1x1x400 .i32) (harg5 : arg5.IsWhole) (arg6 : Memref sig .tc .vmem S1x400x1 .i32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S64x1x128 .f32) (harg11 : arg11.IsWhole) (arg12 : Memref sig .tc .vmem S2048x64 .bf16) (harg12 : arg12.IsWhole) (arg13 : Memref sig .tc .vmem S64x2048 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S400x128 .f32) (harg16 : arg16.IsWhole) (arg17 : Memref sig .tc .vmem S64x288x128 .f32) (harg17 : arg17.IsWhole) (arg18 : Memref sig .tc .vmem S64x288x128 .bf16) (harg18 : arg18.IsWhole) (arg19 : Memref sig .tc .vmem S10000x64 .bf16) (harg19 : arg19.IsWhole)
    (k0_h4 : k0_cond4 i = 1#1) (v16 : IVec S400x1 32) (v18 : Elt F .i32) (v20 : Elt F .i32) (k0_hw4 : k0_chk4 i v18 v20)
    (v24 : FVec F S400x2048 .bf16) (v25 : IVec S400x128 32) (acc0 : FVec F S400x128 .f32) (X18 : BufTy.Contents (Elt F) arg18.view.ty) :
    Idealize.ShloMosaic.LoopInv (M := 𝕄) Idealize.ShloMosaic.frame (wpE (defs₀ (F := F)) 𝒱 (c : Thread nD τ) bd) E
      (k0_t3_loop v18 v20).lb (k0_t3_loop v18 v20).ub (k0_t3_loop v18 v20).st (k0_t3_ok i v18 v20 k0_hw4 k0_h4) acc0
      (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v16 v18 v20 k0_hw4 v24 v25) where
  inv k acc := iprop(held c arg18 fullShare X18
    ∗ ⌜acc = gatherLoop i k0_h4 v16 v18 v20 k0_hw4 v24 v25 (arg18.view.read (Elt F) X18) acc0 k⌝)
  step k acc := by
    iintro ⟨H, %h⟩
    unfold k0_t3_body
    sl_exec
    sl_step
    isplitl [H]; · iexact H
    ipureintro
    rw [show gatherLoop i k0_h4 v16 v18 v20 k0_hw4 v24 v25 (arg18.view.read (Elt F) X18) acc0 (k.val + 1) = _ from dif_pos k.isLt, ← h]
    rfl

/-- The first point: the segment sums start at zero. -/
theorem body_first (𝒱₀ : Variants) (c : Dev nD) (i : grid0.Coords) (arg1 : Memref sig .tc .smem S2x25 .i32) (harg1 : arg1.IsWhole) (arg2 : Memref sig .tc .vmem S400x128 .f32) (harg2 : arg2.IsWhole) (arg3 : Memref sig .tc .vmem S1x32x400 .f32) (harg3 : arg3.IsWhole) (arg4 : Memref sig .tc .vmem S1x32x400 .f32) (harg4 : arg4.IsWhole) (arg5 : Memref sig .tc .vmem S1x1x400 .i32) (harg5 : arg5.IsWhole) (arg6 : Memref sig .tc .vmem S1x400x1 .i32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S64x1x128 .f32) (harg11 : arg11.IsWhole) (arg12 : Memref sig .tc .vmem S2048x64 .bf16) (harg12 : arg12.IsWhole) (arg13 : Memref sig .tc .vmem S64x2048 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S400x128 .f32) (harg16 : arg16.IsWhole) (arg17 : Memref sig .tc .vmem S64x288x128 .f32) (harg17 : arg17.IsWhole) (arg18 : Memref sig .tc .vmem S64x288x128 .bf16) (harg18 : arg18.IsWhole) (arg19 : Memref sig .tc .vmem S10000x64 .bf16) (harg19 : arg19.IsWhole)
    (T : BufTy.Contents (Elt F) arg1.view.ty)
    (h0 : Scalar.cmpi .ne (Scalar.extui (Scalar.cmpi .eq (BitVec.ofNat 32 (i 0).val) 0#32) : BitVec 32) 0#32 = 1#1) (h24 : ¬ Scalar.cmpi .ne (Scalar.extui (Scalar.cmpi .eq (BitVec.ofNat 32 (i 0).val) 24#32) : BitVec 32) 0#32 = 1#1)
    (h4 : ¬ k0_cond4 i = 1#1) (h2 : k0_cond2 i = 1#1)
    (hw1 : k0_chk1 i (View.readAt (Elt F) arg1.view (Rect.unit (s := S2x25) (k0_off2 i) S1x1.size (k0_off2_inb i h2)).toLoadRect T (Shape.Idx.first (s := S1x1) (numel1_S1x1.symm ▸ Nat.one_pos))))
    (hw2 : k0_chk2 i (View.readAt (Elt F) arg1.view (Rect.unit (s := S2x25) (k0_off2 i) S1x1.size (k0_off2_inb i h2)).toLoadRect T (Shape.Idx.first (s := S1x1) (numel1_S1x1.symm ▸ Nat.one_pos))) (View.readAt (Elt F) arg1.view (Rect.unit (s := S2x25) (k0_off3 i) S1x1.size (k0_off3_inb i h2)).toLoadRect T (Shape.Idx.first (s := S1x1) (numel1_S1x1.symm ▸ Nat.one_pos))))
    (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X9 : BufTy.Contents (Elt F) arg9.view.ty) (X10 : BufTy.Contents (Elt F) arg10.view.ty) (X12 : BufTy.Contents (Elt F) arg12.view.ty) (X17 : BufTy.Contents (Elt F) arg17.view.ty) (X19 : BufTy.Contents (Elt F) arg19.view.ty) :
    iprop(held c arg1 fullShare.right T
      ∗ held c arg2 fullShare X2
      ∗ held c arg3 fullShare X3
      ∗ held c arg4 fullShare X4
      ∗ held c arg5 fullShare X5
      ∗ held c arg7 fullShare X7
      ∗ held c arg8 fullShare X8
      ∗ held c arg9 fullShare X9
      ∗ held c arg10 fullShare X10
      ∗ held c arg12 fullShare X12
      ∗ held c arg17 fullShare X17
      ∗ held c arg19 fullShare X19)
    ⊢ wp frame (wpE (defs₀ (F := F)) 𝒱₀ (c : Thread nD τ) none) Set.univ
      (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(held c arg1 fullShare.right T
      ∗ held c arg2 fullShare X2
      ∗ held c arg3 fullShare X3
      ∗ held c arg4 fullShare X4
      ∗ held c arg5 fullShare X5
      ∗ held c arg7 fullShare X7
      ∗ held c arg8 fullShare X8
      ∗ held c arg9 fullShare X9
      ∗ held c arg10 fullShare X10
      ∗ held c arg12 fullShare X12
      ∗ (∃ f17, held c arg17 fullShare f17 ∗ ⌜arg17.view.read (Elt F) f17 = scatter i h2 _ _ hw1 hw2 (arg2.view.read (Elt F) X2) (arg3.view.read (Elt F) X3) (arg4.view.read (Elt F) X4) (arg5.view.read (Elt F) X5) (arg7.view.read (Elt F) X7) (arg8.view.read (Elt F) X8) (arg9.view.read (Elt F) X9) (arg10.view.read (Elt F) X10) (arg12.view.read (Elt F) X12) (k0_pay1 (F := F))⌝)
      ∗ (∃ f19, held c arg19 fullShare f19 ∗ ⌜arg19.view.read (Elt F) f19 = coefs i (arg3.view.read (Elt F) X3) (arg4.view.read (Elt F) X4) (arg19.view.read (Elt F) X19)⌝))) := by
  simp only [cc0__fused_kernel_eq_skeleton]
  unfold cc0__fused_kernel_skel
  iintro ⟨H1, H2, H3, H4, H5, H7, H8, H9, H10, H12, H17, H19⟩
  have rd2 : arg2.view.readAt (Elt F) (Rect.unit (s := S400x128) ![0, 0] S400x128.size inb_S400x128_S400x128_0_0).toLoadRect X2 = arg2.view.read (Elt F) X2 := View.readAt_full _ _ _
  have rd3 : arg3.view.readAt (Elt F) (Rect.unit (s := S1x32x400) ![0, 0, 0] S1x32x400.size inb_S1x32x400_S1x32x400_0_0_0).toLoadRect X3 = arg3.view.read (Elt F) X3 := View.readAt_full _ _ _
  have rd4 : arg4.view.readAt (Elt F) (Rect.unit (s := S1x32x400) ![0, 0, 0] S1x32x400.size inb_S1x32x400_S1x32x400_0_0_0).toLoadRect X4 = arg4.view.read (Elt F) X4 := View.readAt_full _ _ _
  have rd5 : arg5.view.readAt (Elt F) (Rect.unit (s := S1x1x400) ![0, 0, 0] S1x1x400.size inb_S1x1x400_S1x1x400_0_0_0).toLoadRect X5 = arg5.view.read (Elt F) X5 := View.readAt_full _ _ _
  have rd7 : arg7.view.readAt (Elt F) (Rect.unit (s := S128x128) ![0, 0] S128x128.size inb_S128x128_S128x128_0_0).toLoadRect X7 = arg7.view.read (Elt F) X7 := View.readAt_full _ _ _
  have rd8 : arg8.view.readAt (Elt F) (Rect.unit (s := S128x128) ![0, 0] S128x128.size inb_S128x128_S128x128_0_0).toLoadRect X8 = arg8.view.read (Elt F) X8 := View.readAt_full _ _ _
  have rd9 : arg9.view.readAt (Elt F) (Rect.unit (s := S1x128) ![0, 0] S1x128.size inb_S1x128_S1x128_0_0).toLoadRect X9 = arg9.view.read (Elt F) X9 := View.readAt_full _ _ _
  have rd10 : arg10.view.readAt (Elt F) (Rect.unit (s := S1x128) ![0, 0] S1x128.size inb_S1x128_S1x128_0_0).toLoadRect X10 = arg10.view.read (Elt F) X10 := View.readAt_full _ _ _
  have rd12 : arg12.view.readAt (Elt F) (Rect.unit (s := S2048x64) ![0, 0] S2048x64.size inb_S2048x64_S2048x64_0_0).toLoadRect X12 = arg12.view.read (Elt F) X12 := View.readAt_full _ _ _
  sl_exec
  sl_step
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H12]; · iexact H12
  isplitl [H17]
  · iexists _; isplitl [H17]; · iexact H17
    ipureintro
    have z : arg17.view.read (Elt F) (arg17.view.writes (Elt F) arg17.view.junk [⟨Rect.unit (s := S64x288x128) ![0, 0, 0] S64x288x128.size inb_S64x288x128_S64x288x128_0_0_0, k0_pay1 (F := F)⟩])
        = k0_pay1 (F := F) := View.read_writes_full _ _ _ _ []
    rw [View.read_writes_cons_put _ _ _ _ _ rfl] at hL1
    unfold scatter scatterFirst
    rw [← z]
    exact hL1
  iexists _; isplitl [H19]; · iexact H19
  ipureintro
  exact View.read_writes_cons_put _ _ _ _ [] rfl

/-- A later point of the first phase, not its last. -/
theorem body_scatter (𝒱₀ : Variants) (c : Dev nD) (i : grid0.Coords) (arg1 : Memref sig .tc .smem S2x25 .i32) (harg1 : arg1.IsWhole) (arg2 : Memref sig .tc .vmem S400x128 .f32) (harg2 : arg2.IsWhole) (arg3 : Memref sig .tc .vmem S1x32x400 .f32) (harg3 : arg3.IsWhole) (arg4 : Memref sig .tc .vmem S1x32x400 .f32) (harg4 : arg4.IsWhole) (arg5 : Memref sig .tc .vmem S1x1x400 .i32) (harg5 : arg5.IsWhole) (arg6 : Memref sig .tc .vmem S1x400x1 .i32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S64x1x128 .f32) (harg11 : arg11.IsWhole) (arg12 : Memref sig .tc .vmem S2048x64 .bf16) (harg12 : arg12.IsWhole) (arg13 : Memref sig .tc .vmem S64x2048 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S400x128 .f32) (harg16 : arg16.IsWhole) (arg17 : Memref sig .tc .vmem S64x288x128 .f32) (harg17 : arg17.IsWhole) (arg18 : Memref sig .tc .vmem S64x288x128 .bf16) (harg18 : arg18.IsWhole) (arg19 : Memref sig .tc .vmem S10000x64 .bf16) (harg19 : arg19.IsWhole)
    (T : BufTy.Contents (Elt F) arg1.view.ty)
    (h0 : ¬ Scalar.cmpi .ne (Scalar.extui (Scalar.cmpi .eq (BitVec.ofNat 32 (i 0).val) 0#32) : BitVec 32) 0#32 = 1#1) (h24 : ¬ Scalar.cmpi .ne (Scalar.extui (Scalar.cmpi .eq (BitVec.ofNat 32 (i 0).val) 24#32) : BitVec 32) 0#32 = 1#1)
    (h4 : ¬ k0_cond4 i = 1#1) (h2 : k0_cond2 i = 1#1)
    (hw1 : k0_chk1 i (View.readAt (Elt F) arg1.view (Rect.unit (s := S2x25) (k0_off2 i) S1x1.size (k0_off2_inb i h2)).toLoadRect T (Shape.Idx.first (s := S1x1) (numel1_S1x1.symm ▸ Nat.one_pos))))
    (hw2 : k0_chk2 i (View.readAt (Elt F) arg1.view (Rect.unit (s := S2x25) (k0_off2 i) S1x1.size (k0_off2_inb i h2)).toLoadRect T (Shape.Idx.first (s := S1x1) (numel1_S1x1.symm ▸ Nat.one_pos))) (View.readAt (Elt F) arg1.view (Rect.unit (s := S2x25) (k0_off3 i) S1x1.size (k0_off3_inb i h2)).toLoadRect T (Shape.Idx.first (s := S1x1) (numel1_S1x1.symm ▸ Nat.one_pos))))
    (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X9 : BufTy.Contents (Elt F) arg9.view.ty) (X10 : BufTy.Contents (Elt F) arg10.view.ty) (X12 : BufTy.Contents (Elt F) arg12.view.ty) (X17 : BufTy.Contents (Elt F) arg17.view.ty) (X19 : BufTy.Contents (Elt F) arg19.view.ty) :
    iprop(held c arg1 fullShare.right T
      ∗ held c arg2 fullShare X2
      ∗ held c arg3 fullShare X3
      ∗ held c arg4 fullShare X4
      ∗ held c arg5 fullShare X5
      ∗ held c arg7 fullShare X7
      ∗ held c arg8 fullShare X8
      ∗ held c arg9 fullShare X9
      ∗ held c arg10 fullShare X10
      ∗ held c arg12 fullShare X12
      ∗ held c arg17 fullShare X17
      ∗ held c arg19 fullShare X19)
    ⊢ wp frame (wpE (defs₀ (F := F)) 𝒱₀ (c : Thread nD τ) none) Set.univ
      (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(held c arg1 fullShare.right T
      ∗ held c arg2 fullShare X2
      ∗ held c arg3 fullShare X3
      ∗ held c arg4 fullShare X4
      ∗ held c arg5 fullShare X5
      ∗ held c arg7 fullShare X7
      ∗ held c arg8 fullShare X8
      ∗ held c arg9 fullShare X9
      ∗ held c arg10 fullShare X10
      ∗ held c arg12 fullShare X12
      ∗ (∃ f17, held c arg17 fullShare f17 ∗ ⌜arg17.view.read (Elt F) f17 = scatter i h2 _ _ hw1 hw2 (arg2.view.read (Elt F) X2) (arg3.view.read (Elt F) X3) (arg4.view.read (Elt F) X4) (arg5.view.read (Elt F) X5) (arg7.view.read (Elt F) X7) (arg8.view.read (Elt F) X8) (arg9.view.read (Elt F) X9) (arg10.view.read (Elt F) X10) (arg12.view.read (Elt F) X12) (arg17.view.read (Elt F) X17)⌝)
      ∗ (∃ f19, held c arg19 fullShare f19 ∗ ⌜arg19.view.read (Elt F) f19 = coefs i (arg3.view.read (Elt F) X3) (arg4.view.read (Elt F) X4) (arg19.view.read (Elt F) X19)⌝))) := by
  simp only [cc0__fused_kernel_eq_skeleton]
  unfold cc0__fused_kernel_skel
  iintro ⟨H1, H2, H3, H4, H5, H7, H8, H9, H10, H12, H17, H19⟩
  have rd2 : arg2.view.readAt (Elt F) (Rect.unit (s := S400x128) ![0, 0] S400x128.size inb_S400x128_S400x128_0_0).toLoadRect X2 = arg2.view.read (Elt F) X2 := View.readAt_full _ _ _
  have rd3 : arg3.view.readAt (Elt F) (Rect.unit (s := S1x32x400) ![0, 0, 0] S1x32x400.size inb_S1x32x400_S1x32x400_0_0_0).toLoadRect X3 = arg3.view.read (Elt F) X3 := View.readAt_full _ _ _
  have rd4 : arg4.view.readAt (Elt F) (Rect.unit (s := S1x32x400) ![0, 0, 0] S1x32x400.size inb_S1x32x400_S1x32x400_0_0_0).toLoadRect X4 = arg4.view.read (Elt F) X4 := View.readAt_full _ _ _
  have rd5 : arg5.view.readAt (Elt F) (Rect.unit (s := S1x1x400) ![0, 0, 0] S1x1x400.size inb_S1x1x400_S1x1x400_0_0_0).toLoadRect X5 = arg5.view.read (Elt F) X5 := View.readAt_full _ _ _
  have rd7 : arg7.view.readAt (Elt F) (Rect.unit (s := S128x128) ![0, 0] S128x128.size inb_S128x128_S128x128_0_0).toLoadRect X7 = arg7.view.read (Elt F) X7 := View.readAt_full _ _ _
  have rd8 : arg8.view.readAt (Elt F) (Rect.unit (s := S128x128) ![0, 0] S128x128.size inb_S128x128_S128x128_0_0).toLoadRect X8 = arg8.view.read (Elt F) X8 := View.readAt_full _ _ _
  have rd9 : arg9.view.readAt (Elt F) (Rect.unit (s := S1x128) ![0, 0] S1x128.size inb_S1x128_S1x128_0_0).toLoadRect X9 = arg9.view.read (Elt F) X9 := View.readAt_full _ _ _
  have rd10 : arg10.view.readAt (Elt F) (Rect.unit (s := S1x128) ![0, 0] S1x128.size inb_S1x128_S1x128_0_0).toLoadRect X10 = arg10.view.read (Elt F) X10 := View.readAt_full _ _ _
  have rd12 : arg12.view.readAt (Elt F) (Rect.unit (s := S2048x64) ![0, 0] S2048x64.size inb_S2048x64_S2048x64_0_0).toLoadRect X12 = arg12.view.read (Elt F) X12 := View.readAt_full _ _ _
  sl_exec
  sl_step
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H12]; · iexact H12
  isplitl [H17]
  · iexists _; isplitl [H17]; · iexact H17
    ipureintro
    rw [View.read_writes_cons_put _ _ _ _ _ rfl, View.writes_nil] at hL1
    exact hL1
  iexists _; isplitl [H19]; · iexact H19
  ipureintro
  exact View.read_writes_cons_put _ _ _ _ [] rfl

/-- The last point of the first phase: the filtered sums are written too. -/
theorem body_last (𝒱₀ : Variants) (c : Dev nD) (i : grid0.Coords) (arg1 : Memref sig .tc .smem S2x25 .i32) (harg1 : arg1.IsWhole) (arg2 : Memref sig .tc .vmem S400x128 .f32) (harg2 : arg2.IsWhole) (arg3 : Memref sig .tc .vmem S1x32x400 .f32) (harg3 : arg3.IsWhole) (arg4 : Memref sig .tc .vmem S1x32x400 .f32) (harg4 : arg4.IsWhole) (arg5 : Memref sig .tc .vmem S1x1x400 .i32) (harg5 : arg5.IsWhole) (arg6 : Memref sig .tc .vmem S1x400x1 .i32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S64x1x128 .f32) (harg11 : arg11.IsWhole) (arg12 : Memref sig .tc .vmem S2048x64 .bf16) (harg12 : arg12.IsWhole) (arg13 : Memref sig .tc .vmem S64x2048 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S400x128 .f32) (harg16 : arg16.IsWhole) (arg17 : Memref sig .tc .vmem S64x288x128 .f32) (harg17 : arg17.IsWhole) (arg18 : Memref sig .tc .vmem S64x288x128 .bf16) (harg18 : arg18.IsWhole) (arg19 : Memref sig .tc .vmem S10000x64 .bf16) (harg19 : arg19.IsWhole)
    (T : BufTy.Contents (Elt F) arg1.view.ty)
    (h0 : ¬ Scalar.cmpi .ne (Scalar.extui (Scalar.cmpi .eq (BitVec.ofNat 32 (i 0).val) 0#32) : BitVec 32) 0#32 = 1#1) (h24 : Scalar.cmpi .ne (Scalar.extui (Scalar.cmpi .eq (BitVec.ofNat 32 (i 0).val) 24#32) : BitVec 32) 0#32 = 1#1)
    (h4 : ¬ k0_cond4 i = 1#1) (h2 : k0_cond2 i = 1#1)
    (hw1 : k0_chk1 i (View.readAt (Elt F) arg1.view (Rect.unit (s := S2x25) (k0_off2 i) S1x1.size (k0_off2_inb i h2)).toLoadRect T (Shape.Idx.first (s := S1x1) (numel1_S1x1.symm ▸ Nat.one_pos))))
    (hw2 : k0_chk2 i (View.readAt (Elt F) arg1.view (Rect.unit (s := S2x25) (k0_off2 i) S1x1.size (k0_off2_inb i h2)).toLoadRect T (Shape.Idx.first (s := S1x1) (numel1_S1x1.symm ▸ Nat.one_pos))) (View.readAt (Elt F) arg1.view (Rect.unit (s := S2x25) (k0_off3 i) S1x1.size (k0_off3_inb i h2)).toLoadRect T (Shape.Idx.first (s := S1x1) (numel1_S1x1.symm ▸ Nat.one_pos))))
    (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X17 : BufTy.Contents (Elt F) arg17.view.ty) (X18 : BufTy.Contents (Elt F) arg18.view.ty) (X19 : BufTy.Contents (Elt F) arg19.view.ty) :
    iprop(held c arg1 fullShare.right T
      ∗ held c arg2 fullShare X2
      ∗ held c arg3 fullShare X3
      ∗ held c arg4 fullShare X4
      ∗ held c arg5 fullShare X5
      ∗ held c arg7 fullShare X7
      ∗ held c arg8 fullShare X8
      ∗ held c arg9 fullShare X9
      ∗ held c arg10 fullShare X10
      ∗ held c arg11 fullShare X11
      ∗ held c arg12 fullShare X12
      ∗ held c arg17 fullShare X17
      ∗ held c arg18 fullShare X18
      ∗ held c arg19 fullShare X19)
    ⊢ wp frame (wpE (defs₀ (F := F)) 𝒱₀ (c : Thread nD τ) none) Set.univ
      (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(held c arg1 fullShare.right T
      ∗ held c arg2 fullShare X2
      ∗ held c arg3 fullShare X3
      ∗ held c arg4 fullShare X4
      ∗ held c arg5 fullShare X5
      ∗ held c arg7 fullShare X7
      ∗ held c arg8 fullShare X8
      ∗ held c arg9 fullShare X9
      ∗ held c arg10 fullShare X10
      ∗ held c arg11 fullShare X11
      ∗ held c arg12 fullShare X12
      ∗ (∃ f17, held c arg17 fullShare f17 ∗ ⌜arg17.view.read (Elt F) f17 = scatter i h2 _ _ hw1 hw2 (arg2.view.read (Elt F) X2) (arg3.view.read (Elt F) X3) (arg4.view.read (Elt F) X4) (arg5.view.read (Elt F) X5) (arg7.view.read (Elt F) X7) (arg8.view.read (Elt F) X8) (arg9.view.read (Elt F) X9) (arg10.view.read (Elt F) X10) (arg12.view.read (Elt F) X12) (arg17.view.read (Elt F) X17)⌝)
      ∗ (∃ f18, held c arg18 fullShare f18 ∗ ⌜arg18.view.read (Elt F) f18 = k0_pay5 (arg11.view.read (Elt F) X11) (scatter i h2 _ _ hw1 hw2 (arg2.view.read (Elt F) X2) (arg3.view.read (Elt F) X3) (arg4.view.read (Elt F) X4) (arg5.view.read (Elt F) X5) (arg7.view.read (Elt F) X7) (arg8.view.read (Elt F) X8) (arg9.view.read (Elt F) X9) (arg10.view.read (Elt F) X10) (arg12.view.read (Elt F) X12) (arg17.view.read (Elt F) X17))⌝)
      ∗ (∃ f19, held c arg19 fullShare f19 ∗ ⌜arg19.view.read (Elt F) f19 = coefs i (arg3.view.read (Elt F) X3) (arg4.view.read (Elt F) X4) (arg19.view.read (Elt F) X19)⌝))) := by
  simp only [cc0__fused_kernel_eq_skeleton]
  unfold cc0__fused_kernel_skel
  iintro ⟨H1, H2, H3, H4, H5, H7, H8, H9, H10, H11, H12, H17, H18, H19⟩
  have rd2 : arg2.view.readAt (Elt F) (Rect.unit (s := S400x128) ![0, 0] S400x128.size inb_S400x128_S400x128_0_0).toLoadRect X2 = arg2.view.read (Elt F) X2 := View.readAt_full _ _ _
  have rd3 : arg3.view.readAt (Elt F) (Rect.unit (s := S1x32x400) ![0, 0, 0] S1x32x400.size inb_S1x32x400_S1x32x400_0_0_0).toLoadRect X3 = arg3.view.read (Elt F) X3 := View.readAt_full _ _ _
  have rd4 : arg4.view.readAt (Elt F) (Rect.unit (s := S1x32x400) ![0, 0, 0] S1x32x400.size inb_S1x32x400_S1x32x400_0_0_0).toLoadRect X4 = arg4.view.read (Elt F) X4 := View.readAt_full _ _ _
  have rd5 : arg5.view.readAt (Elt F) (Rect.unit (s := S1x1x400) ![0, 0, 0] S1x1x400.size inb_S1x1x400_S1x1x400_0_0_0).toLoadRect X5 = arg5.view.read (Elt F) X5 := View.readAt_full _ _ _
  have rd7 : arg7.view.readAt (Elt F) (Rect.unit (s := S128x128) ![0, 0] S128x128.size inb_S128x128_S128x128_0_0).toLoadRect X7 = arg7.view.read (Elt F) X7 := View.readAt_full _ _ _
  have rd8 : arg8.view.readAt (Elt F) (Rect.unit (s := S128x128) ![0, 0] S128x128.size inb_S128x128_S128x128_0_0).toLoadRect X8 = arg8.view.read (Elt F) X8 := View.readAt_full _ _ _
  have rd9 : arg9.view.readAt (Elt F) (Rect.unit (s := S1x128) ![0, 0] S1x128.size inb_S1x128_S1x128_0_0).toLoadRect X9 = arg9.view.read (Elt F) X9 := View.readAt_full _ _ _
  have rd10 : arg10.view.readAt (Elt F) (Rect.unit (s := S1x128) ![0, 0] S1x128.size inb_S1x128_S1x128_0_0).toLoadRect X10 = arg10.view.read (Elt F) X10 := View.readAt_full _ _ _
  have rd11 : arg11.view.readAt (Elt F) (Rect.unit (s := S64x1x128) ![0, 0, 0] S64x1x128.size inb_S64x1x128_S64x1x128_0_0_0).toLoadRect X11 = arg11.view.read (Elt F) X11 := View.readAt_full _ _ _
  have rd12 : arg12.view.readAt (Elt F) (Rect.unit (s := S2048x64) ![0, 0] S2048x64.size inb_S2048x64_S2048x64_0_0).toLoadRect X12 = arg12.view.read (Elt F) X12 := View.readAt_full _ _ _
  sl_exec
  sl_step
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H17]
  · iexists _; isplitl [H17]; · iexact H17
    ipureintro
    rw [View.read_writes_cons_put _ _ _ _ _ rfl, View.writes_nil] at hL1
    exact hL1
  isplitl [H18]
  · iexists _; isplitl [H18]; · iexact H18
    ipureintro
    rw [View.read_writes_full _ _ _ _ []]
    rw [View.read_writes_cons_put _ _ _ _ _ rfl, View.writes_nil] at hL1
    exact congrArg (k0_pay5 (arg11.view.read (Elt F) X11)) ((View.readAt_full arg17.view fL0 inb_S64x288x128_S64x288x128_0_0_0).trans hL1)
  iexists _; isplitl [H19]; · iexact H19
  ipureintro
  exact View.read_writes_cons_put _ _ _ _ [] rfl

/-- A point of the second phase: the block of the result from the kept coefficients and the filtered sums. -/
theorem body_gather (𝒱₀ : Variants) (c : Dev nD) (i : grid0.Coords) (arg1 : Memref sig .tc .smem S2x25 .i32) (harg1 : arg1.IsWhole) (arg2 : Memref sig .tc .vmem S400x128 .f32) (harg2 : arg2.IsWhole) (arg3 : Memref sig .tc .vmem S1x32x400 .f32) (harg3 : arg3.IsWhole) (arg4 : Memref sig .tc .vmem S1x32x400 .f32) (harg4 : arg4.IsWhole) (arg5 : Memref sig .tc .vmem S1x1x400 .i32) (harg5 : arg5.IsWhole) (arg6 : Memref sig .tc .vmem S1x400x1 .i32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S64x1x128 .f32) (harg11 : arg11.IsWhole) (arg12 : Memref sig .tc .vmem S2048x64 .bf16) (harg12 : arg12.IsWhole) (arg13 : Memref sig .tc .vmem S64x2048 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S400x128 .f32) (harg16 : arg16.IsWhole) (arg17 : Memref sig .tc .vmem S64x288x128 .f32) (harg17 : arg17.IsWhole) (arg18 : Memref sig .tc .vmem S64x288x128 .bf16) (harg18 : arg18.IsWhole) (arg19 : Memref sig .tc .vmem S10000x64 .bf16) (harg19 : arg19.IsWhole)
    (T : BufTy.Contents (Elt F) arg1.view.ty)
    (h0 : ¬ Scalar.cmpi .ne (Scalar.extui (Scalar.cmpi .eq (BitVec.ofNat 32 (i 0).val) 0#32) : BitVec 32) 0#32 = 1#1) (h2 : ¬ k0_cond2 i = 1#1) (h4 : k0_cond4 i = 1#1)
    (hw3 : k0_chk3 i (View.readAt (Elt F) arg1.view (Rect.unit (s := S2x25) (k0_off8 i) S1x1.size (k0_off8_inb i h4)).toLoadRect T (Shape.Idx.first (s := S1x1) (numel1_S1x1.symm ▸ Nat.one_pos))))
    (hw4 : k0_chk4 i (View.readAt (Elt F) arg1.view (Rect.unit (s := S2x25) (k0_off8 i) S1x1.size (k0_off8_inb i h4)).toLoadRect T (Shape.Idx.first (s := S1x1) (numel1_S1x1.symm ▸ Nat.one_pos))) (View.readAt (Elt F) arg1.view (Rect.unit (s := S2x25) (k0_off9 i) S1x1.size (k0_off9_inb i h4)).toLoadRect T (Shape.Idx.first (s := S1x1) (numel1_S1x1.symm ▸ Nat.one_pos))))
    (X2 : BufTy.Contents (Elt F) arg2.view.ty) (X6 : BufTy.Contents (Elt F) arg6.view.ty) (X13 : BufTy.Contents (Elt F) arg13.view.ty) (X14 : BufTy.Contents (Elt F) arg14.view.ty) (X15 : BufTy.Contents (Elt F) arg15.view.ty) (X18 : BufTy.Contents (Elt F) arg18.view.ty) (X19 : BufTy.Contents (Elt F) arg19.view.ty) (X16 : BufTy.Contents (Elt F) arg16.view.ty) :
    iprop(held c arg1 fullShare.right T
      ∗ held c arg2 fullShare X2
      ∗ held c arg6 fullShare X6
      ∗ held c arg13 fullShare X13
      ∗ held c arg14 fullShare X14
      ∗ held c arg15 fullShare X15
      ∗ held c arg18 fullShare X18
      ∗ held c arg19 fullShare X19
      ∗ held c arg16 fullShare X16)
    ⊢ wp frame (wpE (defs₀ (F := F)) 𝒱₀ (c : Thread nD τ) none) Set.univ
      (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(held c arg1 fullShare.right T
      ∗ held c arg2 fullShare X2
      ∗ held c arg6 fullShare X6
      ∗ held c arg13 fullShare X13
      ∗ held c arg14 fullShare X14
      ∗ held c arg15 fullShare X15
      ∗ held c arg18 fullShare X18
      ∗ held c arg19 fullShare X19
      ∗ (∃ f16, held c arg16 fullShare f16 ∗ ⌜arg16.view.read (Elt F) f16 = updated i h4 _ _ hw3 hw4 (arg2.view.read (Elt F) X2) (arg6.view.read (Elt F) X6) (arg13.view.read (Elt F) X13) (arg14.view.read (Elt F) X14) (arg15.view.read (Elt F) X15) (arg18.view.read (Elt F) X18) (arg19.view.read (Elt F) X19)⌝))) := by
  simp only [cc0__fused_kernel_eq_skeleton]
  unfold cc0__fused_kernel_skel
  iintro ⟨H1, H2, H6, H13, H14, H15, H18, H19, H16⟩
  have rd2 : arg2.view.readAt (Elt F) (Rect.unit (s := S400x128) ![0, 0] S400x128.size inb_S400x128_S400x128_0_0).toLoadRect X2 = arg2.view.read (Elt F) X2 := View.readAt_full _ _ _
  have rd6 : arg6.view.readAt (Elt F) (Rect.unit (s := S1x400x1) ![0, 0, 0] S1x400x1.size inb_S1x400x1_S1x400x1_0_0_0).toLoadRect X6 = arg6.view.read (Elt F) X6 := View.readAt_full _ _ _
  have rd13 : arg13.view.readAt (Elt F) (Rect.unit (s := S64x2048) ![0, 0] S64x2048.size inb_S64x2048_S64x2048_0_0).toLoadRect X13 = arg13.view.read (Elt F) X13 := View.readAt_full _ _ _
  have rd14 : arg14.view.readAt (Elt F) (Rect.unit (s := S128x128) ![0, 0] S128x128.size inb_S128x128_S128x128_0_0).toLoadRect X14 = arg14.view.read (Elt F) X14 := View.readAt_full _ _ _
  have rd15 : arg15.view.readAt (Elt F) (Rect.unit (s := S128x128) ![0, 0] S128x128.size inb_S128x128_S128x128_0_0).toLoadRect X15 = arg15.view.read (Elt F) X15 := View.readAt_full _ _ _
  sl_exec
  sl_step
  isplitl [H1]; · iexact H1
  isplitl [H2]; · iexact H2
  isplitl [H6]; · iexact H6
  isplitl [H13]; · iexact H13
  isplitl [H14]; · iexact H14
  isplitl [H15]; · iexact H15
  isplitl [H18]; · iexact H18
  isplitl [H19]; · iexact H19
  iexists _; isplitl [H16]; · iexact H16
  ipureintro
  exact View.read_writes_full _ _ _ _ []

end Cert.KernelIdeal.Hand
-- ==== Proof.KernelIdeal.Step.lean ====
/-
  One grid point of the kernel as a function on what its three scratch buffers hold (the segment sums, the filtered sums
  and the kept coefficients) and on the block of the result, and the body's triple stated with it.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The blocks that the kernel reads at a point. -/
structure Ins (F : FTy → Type) [FloatOps F] where
  x : Vec F S400x128 .f32
  kd : Vec F S1x32x400 .f32
  sc : Vec F S1x32x400 .f32
  br : Vec F S1x1x400 .i32
  bc : Vec F S1x400x1 .i32
  w1 : Vec F S128x128 .f32
  w2 : Vec F S128x128 .f32
  ga : Vec F S1x128 .f32
  be : Vec F S1x128 .f32
  kf : Vec F S64x1x128 .f32
  et : Vec F S2048x64 .bf16
  eb : Vec F S64x2048 .bf16
  u1 : Vec F S128x128 .f32
  u2 : Vec F S128x128 .f32

/-- What the three scratch buffers hold: the segment sums, the filtered sums, the kept coefficients. -/
structure Scr (F : FTy → Type) [FloatOps F] where
  A : Vec F S64x288x128 .f32
  B : Vec F S64x288x128 .bf16
  C : Vec F S10000x64 .bf16

/-- The table of windows passes the checks that the kernel makes of it at every point. -/
structure Checked (T : Vec F S2x25 .i32) : Prop where
  c1 : ∀ i (h2 : k0_cond2 i = 1#1), k0_chk1 i (word T (k0_off2 i) (k0_off2_inb i h2))
  c2 : ∀ i (h2 : k0_cond2 i = 1#1), k0_chk2 i (word T (k0_off2 i) (k0_off2_inb i h2)) (word T (k0_off3 i) (k0_off3_inb i h2))
  c3 : ∀ i (h4 : k0_cond4 i = 1#1), k0_chk3 i (word T (k0_off8 i) (k0_off8_inb i h4))
  c4 : ∀ i (h4 : k0_cond4 i = 1#1), k0_chk4 i (word T (k0_off8 i) (k0_off8_inb i h4)) (word T (k0_off9 i) (k0_off9_inb i h4))

/-- The first point. -/
abbrev isFirst (i : grid0.Coords) : Prop := Scalar.cmpi .ne (Scalar.extui (Scalar.cmpi .eq (BitVec.ofNat 32 (i 0).val) 0#32) : BitVec 32) 0#32 = 1#1
/-- The last point of the first phase. -/
abbrev isLast (i : grid0.Coords) : Prop := Scalar.cmpi .ne (Scalar.extui (Scalar.cmpi .eq (BitVec.ofNat 32 (i 0).val) 24#32) : BitVec 32) 0#32 = 1#1

theorem cond2_iff (i : grid0.Coords) : k0_cond2 i = 1#1 ↔ (i 0).val < 25 := by
  have h : ∀ v : Fin 50, (Scalar.cmpi .ne (Scalar.extui (Scalar.cmpi .slt (BitVec.ofNat 32 v.val) 25#32) : BitVec 32) 0#32 = 1#1 ↔ v.val < 25) := by decide +kernel
  exact h (i 0)
theorem cond4_iff (i : grid0.Coords) : k0_cond4 i = 1#1 ↔ 25 ≤ (i 0).val := by
  have h : ∀ v : Fin 50, (Scalar.cmpi .ne (Scalar.extui (Scalar.cmpi .sge (BitVec.ofNat 32 v.val) 25#32) : BitVec 32) 0#32 = 1#1 ↔ 25 ≤ v.val) := by decide +kernel
  exact h (i 0)
theorem isFirst_iff (i : grid0.Coords) : isFirst i ↔ (i 0).val = 0 := by
  have h : ∀ v : Fin 50, (Scalar.cmpi .ne (Scalar.extui (Scalar.cmpi .eq (BitVec.ofNat 32 v.val) 0#32) : BitVec 32) 0#32 = 1#1 ↔ v.val = 0) := by decide +kernel
  exact h (i 0)
theorem isLast_iff (i : grid0.Coords) : isLast i ↔ (i 0).val = 24 := by
  have h : ∀ v : Fin 50, (Scalar.cmpi .ne (Scalar.extui (Scalar.cmpi .eq (BitVec.ofNat 32 v.val) 24#32) : BitVec 32) 0#32 = 1#1 ↔ v.val = 24) := by decide +kernel
  exact h (i 0)

/-- The segment sums after a point: in the first phase `scatter`, from zeros at the first point. -/
def stepA (i : grid0.Coords) (T : Vec F S2x25 .i32) (hg : Checked T) (b : Ins F) (A : Vec F S64x288x128 .f32) : Vec F S64x288x128 .f32 :=
  if h2 : k0_cond2 i = 1#1 then
    scatter i h2 _ _ (hg.c1 i h2) (hg.c2 i h2) b.x b.kd b.sc b.br b.w1 b.w2 b.ga b.be b.et (if isFirst i then k0_pay1 else A)
  else A

/-- The three scratch buffers after a point. -/
def step (i : grid0.Coords) (T : Vec F S2x25 .i32) (hg : Checked T) (b : Ins F) (s : Scr F) : Scr F where
  A := stepA i T hg b s.A
  B := if isLast i then k0_pay5 b.kf (stepA i T hg b s.A) else s.B
  C := if k0_cond2 i = 1#1 then coefs i b.kd b.sc s.C else s.C

/-- The result's block after a point: in the second phase `updated`. -/
def stepO (i : grid0.Coords) (T : Vec F S2x25 .i32) (hg : Checked T) (b : Ins F) (s : Scr F) (O : Vec F S400x128 .f32) : Vec F S400x128 .f32 :=
  if h4 : k0_cond4 i = 1#1 then updated i h4 _ _ (hg.c3 i h4) (hg.c4 i h4) b.x b.bc b.eb b.u1 b.u2 s.B s.C else O

theorem stepO_early {i : grid0.Coords} (h4 : ¬ k0_cond4 i = 1#1) (T : Vec F S2x25 .i32) (hg : Checked T) (b : Ins F) (s : Scr F) (O : Vec F S400x128 .f32) :
    stepO i T hg b s O = O := dif_neg h4
theorem stepO_late {i : grid0.Coords} (h4 : k0_cond4 i = 1#1) (T : Vec F S2x25 .i32) (hg : Checked T) (b : Ins F) (s : Scr F) (O : Vec F S400x128 .f32) :
    stepO i T hg b s O = updated i h4 _ _ (hg.c3 i h4) (hg.c4 i h4) b.x b.bc b.eb b.u1 b.u2 s.B s.C := dif_pos h4
theorem stepA_first {i : grid0.Coords} (h2 : k0_cond2 i = 1#1) (h0 : isFirst i) (T : Vec F S2x25 .i32) (hg : Checked T) (b : Ins F) (A : Vec F S64x288x128 .f32) :
    stepA i T hg b A = scatter i h2 _ _ (hg.c1 i h2) (hg.c2 i h2) b.x b.kd b.sc b.br b.w1 b.w2 b.ga b.be b.et k0_pay1 := by
  unfold stepA; rw [dif_pos h2, if_pos h0]
theorem stepA_later {i : grid0.Coords} (h2 : k0_cond2 i = 1#1) (h0 : ¬ isFirst i) (T : Vec F S2x25 .i32) (hg : Checked T) (b : Ins F) (A : Vec F S64x288x128 .f32) :
    stepA i T hg b A = scatter i h2 _ _ (hg.c1 i h2) (hg.c2 i h2) b.x b.kd b.sc b.br b.w1 b.w2 b.ga b.be b.et A := by
  unfold stepA; rw [dif_pos h2, if_neg h0]
theorem step_B_last {i : grid0.Coords} (h24 : isLast i) (T : Vec F S2x25 .i32) (hg : Checked T) (b : Ins F) (s : Scr F) :
    (step i T hg b s).B = k0_pay5 b.kf (stepA i T hg b s.A) := if_pos h24
theorem step_B_other {i : grid0.Coords} (h24 : ¬ isLast i) (T : Vec F S2x25 .i32) (hg : Checked T) (b : Ins F) (s : Scr F) :
    (step i T hg b s).B = s.B := if_neg h24
theorem step_C_early {i : grid0.Coords} (h2 : k0_cond2 i = 1#1) (T : Vec F S2x25 .i32) (hg : Checked T) (b : Ins F) (s : Scr F) :
    (step i T hg b s).C = coefs i b.kd b.sc s.C := if_pos h2
theorem step_C_late {i : grid0.Coords} (h2 : ¬ k0_cond2 i = 1#1) (T : Vec F S2x25 .i32) (hg : Checked T) (b : Ins F) (s : Scr F) :
    (step i T hg b s).C = s.C := if_neg h2
theorem step_A_late {i : grid0.Coords} (h2 : ¬ k0_cond2 i = 1#1) (T : Vec F S2x25 .i32) (hg : Checked T) (b : Ins F) (s : Scr F) :
    (step i T hg b s).A = s.A := dif_neg h2

/-- A triple applied to part of what is held. -/
theorem triple_frame (𝒱₀ : Variants) (c : Dev nD) {α : Type} {p : Prog (TpuEff nD τ Cert.KernelIdeal.sig (Elt F) Λ₀ .tc) α} {P R : sProp 𝕄} {Q Q' : α → sProp 𝕄}
    (h : P ⊢ wp frame (wpE (defs₀ (F := F)) 𝒱₀ (c : Thread nD τ) none) Set.univ p Q) (hq : ∀ a, iprop(Q a ∗ R) ⊢ Q' a) :
    iprop(P ∗ R) ⊢ wp frame (wpE (defs₀ (F := F)) 𝒱₀ (c : Thread nD τ) none) Set.univ p Q' :=
  (sep_mono h .rfl).trans ((wp_frame_r _ _ _).trans (wp_mono _ _ _ hq))

set_option maxHeartbeats 1600000 in
/-- The body at any point: it leaves what it reads as it was, and the scratch buffers and the result's block as `step` and
    `stepO` say. -/
theorem sound_step (𝒱₀ : Variants) (c : Dev nD) (i : grid0.Coords) (arg1 : Memref sig .tc .smem S2x25 .i32) (harg1 : arg1.IsWhole) (arg2 : Memref sig .tc .vmem S400x128 .f32) (harg2 : arg2.IsWhole) (arg3 : Memref sig .tc .vmem S1x32x400 .f32) (harg3 : arg3.IsWhole) (arg4 : Memref sig .tc .vmem S1x32x400 .f32) (harg4 : arg4.IsWhole) (arg5 : Memref sig .tc .vmem S1x1x400 .i32) (harg5 : arg5.IsWhole) (arg6 : Memref sig .tc .vmem S1x400x1 .i32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S64x1x128 .f32) (harg11 : arg11.IsWhole) (arg12 : Memref sig .tc .vmem S2048x64 .bf16) (harg12 : arg12.IsWhole) (arg13 : Memref sig .tc .vmem S64x2048 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S400x128 .f32) (harg16 : arg16.IsWhole) (arg17 : Memref sig .tc .vmem S64x288x128 .f32) (harg17 : arg17.IsWhole) (arg18 : Memref sig .tc .vmem S64x288x128 .bf16) (harg18 : arg18.IsWhole) (arg19 : Memref sig .tc .vmem S10000x64 .bf16) (harg19 : arg19.IsWhole)
    (T : Vec F S2x25 .i32) (hg : Checked T) (x : Vec F S400x128 .f32) (kd : Vec F S1x32x400 .f32) (sc : Vec F S1x32x400 .f32) (br : Vec F S1x1x400 .i32) (bc : Vec F S1x400x1 .i32) (w1 : Vec F S128x128 .f32) (w2 : Vec F S128x128 .f32) (ga : Vec F S1x128 .f32) (be : Vec F S1x128 .f32) (kf : Vec F S64x1x128 .f32) (et : Vec F S2048x64 .bf16) (eb : Vec F S64x2048 .bf16) (u1 : Vec F S128x128 .f32) (u2 : Vec F S128x128 .f32)
    (O : Vec F S400x128 .f32) (A : Vec F S64x288x128 .f32) (B : Vec F S64x288x128 .bf16) (C : Vec F S10000x64 .bf16) :
    (iprop(owns (c : Thread nD τ) arg1 fullShare.right T
      ∗ owns (c : Thread nD τ) arg2 fullShare x
      ∗ owns (c : Thread nD τ) arg3 fullShare kd
      ∗ owns (c : Thread nD τ) arg4 fullShare sc
      ∗ owns (c : Thread nD τ) arg5 fullShare br
      ∗ owns (c : Thread nD τ) arg6 fullShare bc
      ∗ owns (c : Thread nD τ) arg7 fullShare w1
      ∗ owns (c : Thread nD τ) arg8 fullShare w2
      ∗ owns (c : Thread nD τ) arg9 fullShare ga
      ∗ owns (c : Thread nD τ) arg10 fullShare be
      ∗ owns (c : Thread nD τ) arg11 fullShare kf
      ∗ owns (c : Thread nD τ) arg12 fullShare et
      ∗ owns (c : Thread nD τ) arg13 fullShare eb
      ∗ owns (c : Thread nD τ) arg14 fullShare u1
      ∗ owns (c : Thread nD τ) arg15 fullShare u2
      ∗ owns (c : Thread nD τ) arg16 fullShare O
      ∗ owns (c : Thread nD τ) arg17 fullShare A
      ∗ owns (c : Thread nD τ) arg18 fullShare B
      ∗ owns (c : Thread nD τ) arg19 fullShare C) : sProp 𝕄)
    ⊢ wp frame (wpE (defs₀ (F := F)) 𝒱₀ (c : Thread nD τ) none) Set.univ
      (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(owns (c : Thread nD τ) arg1 fullShare.right T
      ∗ owns (c : Thread nD τ) arg2 fullShare x
      ∗ owns (c : Thread nD τ) arg3 fullShare kd
      ∗ owns (c : Thread nD τ) arg4 fullShare sc
      ∗ owns (c : Thread nD τ) arg5 fullShare br
      ∗ owns (c : Thread nD τ) arg6 fullShare bc
      ∗ owns (c : Thread nD τ) arg7 fullShare w1
      ∗ owns (c : Thread nD τ) arg8 fullShare w2
      ∗ owns (c : Thread nD τ) arg9 fullShare ga
      ∗ owns (c : Thread nD τ) arg10 fullShare be
      ∗ owns (c : Thread nD τ) arg11 fullShare kf
      ∗ owns (c : Thread nD τ) arg12 fullShare et
      ∗ owns (c : Thread nD τ) arg13 fullShare eb
      ∗ owns (c : Thread nD τ) arg14 fullShare u1
      ∗ owns (c : Thread nD τ) arg15 fullShare u2
      ∗ owns (c : Thread nD τ) arg16 fullShare (stepO i T hg ⟨x, kd, sc, br, bc, w1, w2, ga, be, kf, et, eb, u1, u2⟩ ⟨A, B, C⟩ O)
      ∗ owns (c : Thread nD τ) arg17 fullShare (step i T hg ⟨x, kd, sc, br, bc, w1, w2, ga, be, kf, et, eb, u1, u2⟩ ⟨A, B, C⟩).A
      ∗ owns (c : Thread nD τ) arg18 fullShare (step i T hg ⟨x, kd, sc, br, bc, w1, w2, ga, be, kf, et, eb, u1, u2⟩ ⟨A, B, C⟩).B
      ∗ owns (c : Thread nD τ) arg19 fullShare (step i T hg ⟨x, kd, sc, br, bc, w1, w2, ga, be, kf, et, eb, u1, u2⟩ ⟨A, B, C⟩).C)) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩⟩
  subst e1 e2 e3 e4 e5 e6 e7 e8 e9 e10 e11 e12 e13 e14 e15 e16 e17 e18 e19
  by_cases h2 : k0_cond2 i = 1#1
  · have h4 : ¬ k0_cond4 i = 1#1 := by rw [cond4_iff]; rw [cond2_iff] at h2; omega
    by_cases h0 : isFirst i
    · have h24 : ¬ isLast i := by rw [isLast_iff]; rw [isFirst_iff] at h0; omega
      iapply (triple_frame 𝒱₀ c (R := iprop(held c arg6 fullShare f6 ∗ held c arg11 fullShare f11 ∗ held c arg13 fullShare f13 ∗ held c arg14 fullShare f14 ∗ held c arg15 fullShare f15 ∗ held c arg16 fullShare f16 ∗ held c arg18 fullShare f18)) (body_first 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 h0 h24 h4 h2 (hg.c1 i h2) (hg.c2 i h2) f2 f3 f4 f5 f7 f8 f9 f10 f12 f17 f19) ?_)
      · intro _
        iintro ⟨⟨H1, H2, H3, H4, H5, H7, H8, H9, H10, H12, ⟨%g17, H17, %e17⟩, ⟨%g19, H19, %e19⟩⟩, H6, H11, H13, H14, H15, H16, H18⟩
        isplitl [H1]
        · iexists f1; isplitr [H1]
          · ipureintro; rfl
          · iexact H1
        isplitl [H2]
        · iexists f2; isplitr [H2]
          · ipureintro; rfl
          · iexact H2
        isplitl [H3]
        · iexists f3; isplitr [H3]
          · ipureintro; rfl
          · iexact H3
        isplitl [H4]
        · iexists f4; isplitr [H4]
          · ipureintro; rfl
          · iexact H4
        isplitl [H5]
        · iexists f5; isplitr [H5]
          · ipureintro; rfl
          · iexact H5
        isplitl [H6]
        · iexists f6; isplitr [H6]
          · ipureintro; rfl
          · iexact H6
        isplitl [H7]
        · iexists f7; isplitr [H7]
          · ipureintro; rfl
          · iexact H7
        isplitl [H8]
        · iexists f8; isplitr [H8]
          · ipureintro; rfl
          · iexact H8
        isplitl [H9]
        · iexists f9; isplitr [H9]
          · ipureintro; rfl
          · iexact H9
        isplitl [H10]
        · iexists f10; isplitr [H10]
          · ipureintro; rfl
          · iexact H10
        isplitl [H11]
        · iexists f11; isplitr [H11]
          · ipureintro; rfl
          · iexact H11
        isplitl [H12]
        · iexists f12; isplitr [H12]
          · ipureintro; rfl
          · iexact H12
        isplitl [H13]
        · iexists f13; isplitr [H13]
          · ipureintro; rfl
          · iexact H13
        isplitl [H14]
        · iexists f14; isplitr [H14]
          · ipureintro; rfl
          · iexact H14
        isplitl [H15]
        · iexists f15; isplitr [H15]
          · ipureintro; rfl
          · iexact H15
        isplitl [H16]
        · iexists f16; isplitr [H16]
          · ipureintro; exact (stepO_early h4 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩ (arg16.view.read (Elt F) f16)).symm
          · iexact H16
        isplitl [H17]
        · iexists g17; isplitr [H17]
          · ipureintro; exact e17.trans ((stepA_first h2 h0 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ (arg17.view.read (Elt F) f17)).symm)
          · iexact H17
        isplitl [H18]
        · iexists f18; isplitr [H18]
          · ipureintro; exact (step_B_other h24 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩).symm
          · iexact H18
        iexists g19; isplitr [H19]
        · ipureintro; exact e19.trans ((step_C_early h2 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩).symm)
        · iexact H19
      · isplitl [H1 H2 H3 H4 H5 H7 H8 H9 H10 H12 H17 H19]
        · isplitl [H1]; · iexact H1
          isplitl [H2]; · iexact H2
          isplitl [H3]; · iexact H3
          isplitl [H4]; · iexact H4
          isplitl [H5]; · iexact H5
          isplitl [H7]; · iexact H7
          isplitl [H8]; · iexact H8
          isplitl [H9]; · iexact H9
          isplitl [H10]; · iexact H10
          isplitl [H12]; · iexact H12
          isplitl [H17]; · iexact H17
          iexact H19
        isplitl [H6]; · iexact H6
        isplitl [H11]; · iexact H11
        isplitl [H13]; · iexact H13
        isplitl [H14]; · iexact H14
        isplitl [H15]; · iexact H15
        isplitl [H16]; · iexact H16
        iexact H18
    · by_cases h24 : isLast i
      · skip
        iapply (triple_frame 𝒱₀ c (R := iprop(held c arg6 fullShare f6 ∗ held c arg13 fullShare f13 ∗ held c arg14 fullShare f14 ∗ held c arg15 fullShare f15 ∗ held c arg16 fullShare f16)) (body_last 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 h0 h24 h4 h2 (hg.c1 i h2) (hg.c2 i h2) f2 f3 f4 f5 f7 f8 f9 f10 f11 f12 f17 f18 f19) ?_)
        · intro _
          iintro ⟨⟨H1, H2, H3, H4, H5, H7, H8, H9, H10, H11, H12, ⟨%g17, H17, %e17⟩, ⟨%g18, H18, %e18⟩, ⟨%g19, H19, %e19⟩⟩, H6, H13, H14, H15, H16⟩
          isplitl [H1]
          · iexists f1; isplitr [H1]
            · ipureintro; rfl
            · iexact H1
          isplitl [H2]
          · iexists f2; isplitr [H2]
            · ipureintro; rfl
            · iexact H2
          isplitl [H3]
          · iexists f3; isplitr [H3]
            · ipureintro; rfl
            · iexact H3
          isplitl [H4]
          · iexists f4; isplitr [H4]
            · ipureintro; rfl
            · iexact H4
          isplitl [H5]
          · iexists f5; isplitr [H5]
            · ipureintro; rfl
            · iexact H5
          isplitl [H6]
          · iexists f6; isplitr [H6]
            · ipureintro; rfl
            · iexact H6
          isplitl [H7]
          · iexists f7; isplitr [H7]
            · ipureintro; rfl
            · iexact H7
          isplitl [H8]
          · iexists f8; isplitr [H8]
            · ipureintro; rfl
            · iexact H8
          isplitl [H9]
          · iexists f9; isplitr [H9]
            · ipureintro; rfl
            · iexact H9
          isplitl [H10]
          · iexists f10; isplitr [H10]
            · ipureintro; rfl
            · iexact H10
          isplitl [H11]
          · iexists f11; isplitr [H11]
            · ipureintro; rfl
            · iexact H11
          isplitl [H12]
          · iexists f12; isplitr [H12]
            · ipureintro; rfl
            · iexact H12
          isplitl [H13]
          · iexists f13; isplitr [H13]
            · ipureintro; rfl
            · iexact H13
          isplitl [H14]
          · iexists f14; isplitr [H14]
            · ipureintro; rfl
            · iexact H14
          isplitl [H15]
          · iexists f15; isplitr [H15]
            · ipureintro; rfl
            · iexact H15
          isplitl [H16]
          · iexists f16; isplitr [H16]
            · ipureintro; exact (stepO_early h4 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩ (arg16.view.read (Elt F) f16)).symm
            · iexact H16
          isplitl [H17]
          · iexists g17; isplitr [H17]
            · ipureintro; exact e17.trans ((stepA_later h2 h0 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ (arg17.view.read (Elt F) f17)).symm)
            · iexact H17
          isplitl [H18]
          · iexists g18; isplitr [H18]
            · ipureintro; exact e18.trans ((step_B_last h24 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩).trans (congrArg (k0_pay5 (arg11.view.read (Elt F) f11)) (stepA_later h2 h0 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ (arg17.view.read (Elt F) f17))) |>.symm)
            · iexact H18
          iexists g19; isplitr [H19]
          · ipureintro; exact e19.trans ((step_C_early h2 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩).symm)
          · iexact H19
        · isplitl [H1 H2 H3 H4 H5 H7 H8 H9 H10 H11 H12 H17 H18 H19]
          · isplitl [H1]; · iexact H1
            isplitl [H2]; · iexact H2
            isplitl [H3]; · iexact H3
            isplitl [H4]; · iexact H4
            isplitl [H5]; · iexact H5
            isplitl [H7]; · iexact H7
            isplitl [H8]; · iexact H8
            isplitl [H9]; · iexact H9
            isplitl [H10]; · iexact H10
            isplitl [H11]; · iexact H11
            isplitl [H12]; · iexact H12
            isplitl [H17]; · iexact H17
            isplitl [H18]; · iexact H18
            iexact H19
          isplitl [H6]; · iexact H6
          isplitl [H13]; · iexact H13
          isplitl [H14]; · iexact H14
          isplitl [H15]; · iexact H15
          iexact H16
      · skip
        iapply (triple_frame 𝒱₀ c (R := iprop(held c arg6 fullShare f6 ∗ held c arg11 fullShare f11 ∗ held c arg13 fullShare f13 ∗ held c arg14 fullShare f14 ∗ held c arg15 fullShare f15 ∗ held c arg16 fullShare f16 ∗ held c arg18 fullShare f18)) (body_scatter 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 h0 h24 h4 h2 (hg.c1 i h2) (hg.c2 i h2) f2 f3 f4 f5 f7 f8 f9 f10 f12 f17 f19) ?_)
        · intro _
          iintro ⟨⟨H1, H2, H3, H4, H5, H7, H8, H9, H10, H12, ⟨%g17, H17, %e17⟩, ⟨%g19, H19, %e19⟩⟩, H6, H11, H13, H14, H15, H16, H18⟩
          isplitl [H1]
          · iexists f1; isplitr [H1]
            · ipureintro; rfl
            · iexact H1
          isplitl [H2]
          · iexists f2; isplitr [H2]
            · ipureintro; rfl
            · iexact H2
          isplitl [H3]
          · iexists f3; isplitr [H3]
            · ipureintro; rfl
            · iexact H3
          isplitl [H4]
          · iexists f4; isplitr [H4]
            · ipureintro; rfl
            · iexact H4
          isplitl [H5]
          · iexists f5; isplitr [H5]
            · ipureintro; rfl
            · iexact H5
          isplitl [H6]
          · iexists f6; isplitr [H6]
            · ipureintro; rfl
            · iexact H6
          isplitl [H7]
          · iexists f7; isplitr [H7]
            · ipureintro; rfl
            · iexact H7
          isplitl [H8]
          · iexists f8; isplitr [H8]
            · ipureintro; rfl
            · iexact H8
          isplitl [H9]
          · iexists f9; isplitr [H9]
            · ipureintro; rfl
            · iexact H9
          isplitl [H10]
          · iexists f10; isplitr [H10]
            · ipureintro; rfl
            · iexact H10
          isplitl [H11]
          · iexists f11; isplitr [H11]
            · ipureintro; rfl
            · iexact H11
          isplitl [H12]
          · iexists f12; isplitr [H12]
            · ipureintro; rfl
            · iexact H12
          isplitl [H13]
          · iexists f13; isplitr [H13]
            · ipureintro; rfl
            · iexact H13
          isplitl [H14]
          · iexists f14; isplitr [H14]
            · ipureintro; rfl
            · iexact H14
          isplitl [H15]
          · iexists f15; isplitr [H15]
            · ipureintro; rfl
            · iexact H15
          isplitl [H16]
          · iexists f16; isplitr [H16]
            · ipureintro; exact (stepO_early h4 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩ (arg16.view.read (Elt F) f16)).symm
            · iexact H16
          isplitl [H17]
          · iexists g17; isplitr [H17]
            · ipureintro; exact e17.trans ((stepA_later h2 h0 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ (arg17.view.read (Elt F) f17)).symm)
            · iexact H17
          isplitl [H18]
          · iexists f18; isplitr [H18]
            · ipureintro; exact (step_B_other h24 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩).symm
            · iexact H18
          iexists g19; isplitr [H19]
          · ipureintro; exact e19.trans ((step_C_early h2 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩).symm)
          · iexact H19
        · isplitl [H1 H2 H3 H4 H5 H7 H8 H9 H10 H12 H17 H19]
          · isplitl [H1]; · iexact H1
            isplitl [H2]; · iexact H2
            isplitl [H3]; · iexact H3
            isplitl [H4]; · iexact H4
            isplitl [H5]; · iexact H5
            isplitl [H7]; · iexact H7
            isplitl [H8]; · iexact H8
            isplitl [H9]; · iexact H9
            isplitl [H10]; · iexact H10
            isplitl [H12]; · iexact H12
            isplitl [H17]; · iexact H17
            iexact H19
          isplitl [H6]; · iexact H6
          isplitl [H11]; · iexact H11
          isplitl [H13]; · iexact H13
          isplitl [H14]; · iexact H14
          isplitl [H15]; · iexact H15
          isplitl [H16]; · iexact H16
          iexact H18
  · have h4 : k0_cond4 i = 1#1 := by rw [cond4_iff]; rw [cond2_iff] at h2; omega
    have h0 : ¬ isFirst i := by rw [isFirst_iff]; rw [cond2_iff] at h2; omega
    have h24 : ¬ isLast i := by rw [isLast_iff]; rw [cond2_iff] at h2; omega
    iapply (triple_frame 𝒱₀ c (R := iprop(held c arg3 fullShare f3 ∗ held c arg4 fullShare f4 ∗ held c arg5 fullShare f5 ∗ held c arg7 fullShare f7 ∗ held c arg8 fullShare f8 ∗ held c arg9 fullShare f9 ∗ held c arg10 fullShare f10 ∗ held c arg11 fullShare f11 ∗ held c arg12 fullShare f12 ∗ held c arg17 fullShare f17)) (body_gather 𝒱₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 h0 h2 h4 (hg.c3 i h4) (hg.c4 i h4) f2 f6 f13 f14 f15 f18 f19 f16) ?_)
    · intro _
      iintro ⟨⟨H1, H2, H6, H13, H14, H15, H18, H19, ⟨%g16, H16, %e16⟩⟩, H3, H4, H5, H7, H8, H9, H10, H11, H12, H17⟩
      isplitl [H1]
      · iexists f1; isplitr [H1]
        · ipureintro; rfl
        · iexact H1
      isplitl [H2]
      · iexists f2; isplitr [H2]
        · ipureintro; rfl
        · iexact H2
      isplitl [H3]
      · iexists f3; isplitr [H3]
        · ipureintro; rfl
        · iexact H3
      isplitl [H4]
      · iexists f4; isplitr [H4]
        · ipureintro; rfl
        · iexact H4
      isplitl [H5]
      · iexists f5; isplitr [H5]
        · ipureintro; rfl
        · iexact H5
      isplitl [H6]
      · iexists f6; isplitr [H6]
        · ipureintro; rfl
        · iexact H6
      isplitl [H7]
      · iexists f7; isplitr [H7]
        · ipureintro; rfl
        · iexact H7
      isplitl [H8]
      · iexists f8; isplitr [H8]
        · ipureintro; rfl
        · iexact H8
      isplitl [H9]
      · iexists f9; isplitr [H9]
        · ipureintro; rfl
        · iexact H9
      isplitl [H10]
      · iexists f10; isplitr [H10]
        · ipureintro; rfl
        · iexact H10
      isplitl [H11]
      · iexists f11; isplitr [H11]
        · ipureintro; rfl
        · iexact H11
      isplitl [H12]
      · iexists f12; isplitr [H12]
        · ipureintro; rfl
        · iexact H12
      isplitl [H13]
      · iexists f13; isplitr [H13]
        · ipureintro; rfl
        · iexact H13
      isplitl [H14]
      · iexists f14; isplitr [H14]
        · ipureintro; rfl
        · iexact H14
      isplitl [H15]
      · iexists f15; isplitr [H15]
        · ipureintro; rfl
        · iexact H15
      isplitl [H16]
      · iexists g16; isplitr [H16]
        · ipureintro; exact e16.trans ((stepO_late h4 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩ (arg16.view.read (Elt F) f16)).symm)
        · iexact H16
      isplitl [H17]
      · iexists f17; isplitr [H17]
        · ipureintro; exact (step_A_late h2 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩).symm
        · iexact H17
      isplitl [H18]
      · iexists f18; isplitr [H18]
        · ipureintro; exact (step_B_other h24 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩).symm
        · iexact H18
      iexists f19; isplitr [H19]
      · ipureintro; exact (step_C_late h2 (arg1.view.read (Elt F) f1) hg ⟨(arg2.view.read (Elt F) f2), (arg3.view.read (Elt F) f3), (arg4.view.read (Elt F) f4), (arg5.view.read (Elt F) f5), (arg6.view.read (Elt F) f6), (arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15)⟩ ⟨(arg17.view.read (Elt F) f17), (arg18.view.read (Elt F) f18), (arg19.view.read (Elt F) f19)⟩).symm
      · iexact H19
    · isplitl [H1 H2 H6 H13 H14 H15 H18 H19 H16]
      · isplitl [H1]; · iexact H1
        isplitl [H2]; · iexact H2
        isplitl [H6]; · iexact H6
        isplitl [H13]; · iexact H13
        isplitl [H14]; · iexact H14
        isplitl [H15]; · iexact H15
        isplitl [H18]; · iexact H18
        isplitl [H19]; · iexact H19
        iexact H16
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      iexact H17

end Cert.KernelIdeal.Hand

end
-- ==== Proof.KernelIdeal.Run.lean ====
/-
  The kernel's run: the pipeline's proof data over any contents of the arrays at its entry, the body obligation at every
  point, and what the run leaves.
-/
module

public import proofs.«01_k».proof.Proof.KernelIdeal.Step
public import Idealize.ShloMosaic.Lib.Pipeline.Frame
public import Idealize.ShloMosaic.Lib.Pipeline.FrameBody
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (RDat Cfg Window)

section Data

variable (V : (c : Dev nD) → (b : Ref sig .tc) → Buf (Elt F) ((c.tc : Thread nD τ).loc b))

/-- The table of windows at the pipeline's entry. -/
def tab (c : Dev nD) : Vec F S2x25 .i32 := V c main_v9

/-- The pipeline's tables, as its configuration takes them. -/
def adm : (p : Fin 1) → (pcfgs (F := F) p).Adm := fun _ => ⟨fun k => V 0 (pre0.ref k), trivial⟩

abbrev cf : Cfg sig Λ₀ := Pipeline.pin (pcfgs (F := F)) (adm V) 0

/-- Window `w`'s block at point `t`. -/
def xin (c : Dev nD) (w : Fin 15) (t : Fin (cf V).N) : ((cf V).win w).block.Idx → Elt F ((cf V).win w).elt :=
  ((cf V).win w).fill ((cf V).grid.coords t) (fun _ => Classical.arbitrary _) ((((cf V).win w).blk t).view.read (Elt F) (V c (Pipeline.arrRef (cf V).spec w)))

/-- The blocks that the kernel reads at point `t`. -/
def ins (c : Dev nD) (t : Fin (cf V).N) : Ins F where
  x := xin V c 0 t
  kd := xin V c 1 t
  sc := xin V c 2 t
  br := xin V c 3 t
  bc := xin V c 4 t
  w1 := xin V c 5 t
  w2 := xin V c 6 t
  ga := xin V c 7 t
  be := xin V c 8 t
  kf := xin V c 9 t
  et := xin V c 10 t
  eb := xin V c 11 t
  u1 := xin V c 12 t
  u2 := xin V c 13 t

variable (hg : ∀ c, Checked (tab V c))

/-- The scratch buffers before point `n`, from what they held at entry. -/
def st (c : Dev nD) (s : Scr F) : ℕ → Scr F
  | 0 => s
  | n + 1 => if h : n < (cf V).N then step ((cf V).grid.coords ⟨n, h⟩) (tab V c) (hg c) (ins V c ⟨n, h⟩) (st c s n) else st c s n

theorem st_succ (c : Dev nD) (s : Scr F) (t : Fin (cf V).N) :
    st V hg c s (t.val + 1) = step ((cf V).grid.coords t) (tab V c) (hg c) (ins V c t) (st V hg c s t.val) := by
  show (if h : t.val < (cf V).N then _ else _) = _
  rw [dif_pos t.isLt]

/-- What the body may leave in window `w` at point `t`: an input's block stays, the result's becomes `stepO`. -/
def aft (c : Dev nD) : (w : Fin 15) → Fin (cf V).N → (Y X : ((cf V).win w).block.Idx → Elt F ((cf V).win w).elt) → Prop := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun _ Y X => X = Y
    | 9 => fun _ Y X => X = Y
    | 10 => fun _ Y X => X = Y
    | 11 => fun _ Y X => X = Y
    | 12 => fun _ Y X => X = Y
    | 13 => fun _ Y X => X = Y
    | 14 => fun t Y X => ∃ s, X = stepO ((cf V).grid.coords t) (tab V c) (hg c) (ins V c t) (st V hg c s t.val) Y
    | ⟨_ + 15, h⟩ => absurd h (Nat.not_lt.2 (Nat.le_add_left _ _))

/-- The pipeline's proof data: the scratch buffers before point `t` hold `st … t`. -/
def rdat (c : Dev nD) : RDat τ (Elt F) Unit ℕ (UR sig nD τ) ℕ (cf V) c where
  A w := V c (Pipeline.arrRef (cf V).spec w)
  after := aft V hg c
  Φ t := iprop(∃ s : Scr F, owns (c : Thread nD τ) (Memref.whole cc0_scratch0) fullShare (st V hg c s t.val).A
    ∗ owns (c : Thread nD τ) (Memref.whole cc0_scratch1) fullShare (st V hg c s t.val).B
    ∗ owns (c : Thread nD τ) (Memref.whole cc0_scratch2) fullShare (st V hg c s t.val).C
    ∗ (∃ r, prngReg c r) ∗ owns (c : Thread nD τ) (Memref.whole main_v9) fullShare.right (tab V c))
  q := fun _ => fullShare
  owed := fun _ => 0

theorem rdat_Φ (c : Dev nD) (t) : (rdat V hg c).Φ t = iprop(∃ s : Scr F, owns (c : Thread nD τ) (Memref.whole cc0_scratch0) fullShare (st V hg c s t.val).A
    ∗ owns (c : Thread nD τ) (Memref.whole cc0_scratch1) fullShare (st V hg c s t.val).B
    ∗ owns (c : Thread nD τ) (Memref.whole cc0_scratch2) fullShare (st V hg c s t.val).C
    ∗ (∃ r, prngReg c r) ∗ owns (c : Thread nD τ) (Memref.whole main_v9) fullShare.right (tab V c)) := rfl

theorem no_clip (w : Fin 15) (i : (cf V).grid.Coords) (a) : ((cf V).win w).clip i a = none := rfl

theorem aft_in (c : Dev nD) : (w : Fin 15) → w ≠ 14 → ∀ t Y X, aft V hg c w t Y X → X = Y := fun
    | 0 => fun _ _ _ _ h => h
    | 1 => fun _ _ _ _ h => h
    | 2 => fun _ _ _ _ h => h
    | 3 => fun _ _ _ _ h => h
    | 4 => fun _ _ _ _ h => h
    | 5 => fun _ _ _ _ h => h
    | 6 => fun _ _ _ _ h => h
    | 7 => fun _ _ _ _ h => h
    | 8 => fun _ _ _ _ h => h
    | 9 => fun _ _ _ _ h => h
    | 10 => fun _ _ _ _ h => h
    | 11 => fun _ _ _ _ h => h
    | 12 => fun _ _ _ _ h => h
    | 13 => fun _ _ _ _ h => h
    | 14 => fun h => absurd rfl h
    | ⟨_ + 15, h⟩ => absurd h (Nat.not_lt.2 (Nat.le_add_left _ _))

theorem isOut_in : ∀ w : Fin 15, w ≠ 14 → (spec0 w).isOut = false := by decide

/-- What the body finds in an input window is its block. -/
theorem finds_in (c : Dev nD) (w : Fin 15) (hw : w ≠ 14) (t : Fin (cf V).N) (Y) (h : (rdat V hg c).Finds w t Y) : Y = xin V c w t := by
  obtain ⟨d, hd⟩ := (rdat V hg c).finds_in_eq_fetched w (isOut_in w hw) (fun _ _ _ => rfl) (fun t Y X h => aft_in V hg c w hw t Y X h) t Y h
  exact hd.trans (Pipeline.fill_of_clip_none (cfg := cf V) w ((cf V).grid.coords t) (no_clip V w _) _ _ _)

theorem defs₀_row (t : Fin (cf V).N) (s : (w : Fin 15) → Fin ((cf V).win w).nbuf) :
    (defs₀ (F := F)) .tc (cf V).body ((cf V).bodyArgs t s) = cc0__fused_kernel ((cf V).grid.coords t) (Memref.whole main_v9) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (spec0_8.stage (s 8)) (hstage0_8 ((s 8).cast nbuf0_8)) (spec0_9.stage (s 9)) (hstage0_9 ((s 9).cast nbuf0_9)) (spec0_10.stage (s 10)) (hstage0_10 ((s 10).cast nbuf0_10)) (spec0_11.stage (s 11)) (hstage0_11 ((s 11).cast nbuf0_11)) (spec0_12.stage (s 12)) (hstage0_12 ((s 12).cast nbuf0_12)) (spec0_13.stage (s 13)) (hstage0_13 ((s 13).cast nbuf0_13)) (spec0_14.stage (s 14)) (hstage0_14 ((s 14).cast nbuf0_14)) (Memref.whole cc0_scratch0) (Memref.isWhole_whole _) (Memref.whole cc0_scratch1) (Memref.isWhole_whole _) (Memref.whole cc0_scratch2) (Memref.isWhole_whole _) := by
  unfold defs₀; rw [Defs.onTc_tc]

set_option maxHeartbeats 1600000 in
theorem body_obligation (c : Dev nD) : (rdat V hg c).BodyObligation (defs₀ (F := F)) Variants.none () Set.univ := fun t Y hY => by
  rw [bigSep_W0, bigSep_W0, defs₀_row V, rdat_Φ, rdat_Φ]
  have e0 : Y 0 = xin V c 0 t := finds_in V hg c 0 (by decide) t _ (hY 0)
  have e1 : Y 1 = xin V c 1 t := finds_in V hg c 1 (by decide) t _ (hY 1)
  have e2 : Y 2 = xin V c 2 t := finds_in V hg c 2 (by decide) t _ (hY 2)
  have e3 : Y 3 = xin V c 3 t := finds_in V hg c 3 (by decide) t _ (hY 3)
  have e4 : Y 4 = xin V c 4 t := finds_in V hg c 4 (by decide) t _ (hY 4)
  have e5 : Y 5 = xin V c 5 t := finds_in V hg c 5 (by decide) t _ (hY 5)
  have e6 : Y 6 = xin V c 6 t := finds_in V hg c 6 (by decide) t _ (hY 6)
  have e7 : Y 7 = xin V c 7 t := finds_in V hg c 7 (by decide) t _ (hY 7)
  have e8 : Y 8 = xin V c 8 t := finds_in V hg c 8 (by decide) t _ (hY 8)
  have e9 : Y 9 = xin V c 9 t := finds_in V hg c 9 (by decide) t _ (hY 9)
  have e10 : Y 10 = xin V c 10 t := finds_in V hg c 10 (by decide) t _ (hY 10)
  have e11 : Y 11 = xin V c 11 t := finds_in V hg c 11 (by decide) t _ (hY 11)
  have e12 : Y 12 = xin V c 12 t := finds_in V hg c 12 (by decide) t _ (hY 12)
  have e13 : Y 13 = xin V c 13 t := finds_in V hg c 13 (by decide) t _ (hY 13)
  have key := sound_step Variants.none c ((cf V).grid.coords t) (Memref.whole main_v9) (Memref.isWhole_whole _) (spec0_0.stage ((cf V).slots t 0)) (hstage0_0 (((cf V).slots t 0).cast nbuf0_0)) (spec0_1.stage ((cf V).slots t 1)) (hstage0_1 (((cf V).slots t 1).cast nbuf0_1)) (spec0_2.stage ((cf V).slots t 2)) (hstage0_2 (((cf V).slots t 2).cast nbuf0_2)) (spec0_3.stage ((cf V).slots t 3)) (hstage0_3 (((cf V).slots t 3).cast nbuf0_3)) (spec0_4.stage ((cf V).slots t 4)) (hstage0_4 (((cf V).slots t 4).cast nbuf0_4)) (spec0_5.stage ((cf V).slots t 5)) (hstage0_5 (((cf V).slots t 5).cast nbuf0_5)) (spec0_6.stage ((cf V).slots t 6)) (hstage0_6 (((cf V).slots t 6).cast nbuf0_6)) (spec0_7.stage ((cf V).slots t 7)) (hstage0_7 (((cf V).slots t 7).cast nbuf0_7)) (spec0_8.stage ((cf V).slots t 8)) (hstage0_8 (((cf V).slots t 8).cast nbuf0_8)) (spec0_9.stage ((cf V).slots t 9)) (hstage0_9 (((cf V).slots t 9).cast nbuf0_9)) (spec0_10.stage ((cf V).slots t 10)) (hstage0_10 (((cf V).slots t 10).cast nbuf0_10)) (spec0_11.stage ((cf V).slots t 11)) (hstage0_11 (((cf V).slots t 11).cast nbuf0_11)) (spec0_12.stage ((cf V).slots t 12)) (hstage0_12 (((cf V).slots t 12).cast nbuf0_12)) (spec0_13.stage ((cf V).slots t 13)) (hstage0_13 (((cf V).slots t 13).cast nbuf0_13)) (spec0_14.stage ((cf V).slots t 14)) (hstage0_14 (((cf V).slots t 14).cast nbuf0_14)) (Memref.whole cc0_scratch0) (Memref.isWhole_whole _) (Memref.whole cc0_scratch1) (Memref.isWhole_whole _) (Memref.whole cc0_scratch2) (Memref.isWhole_whole _) (tab V c) (hg c) (xin V c 0 t) (xin V c 1 t) (xin V c 2 t) (xin V c 3 t) (xin V c 4 t) (xin V c 5 t) (xin V c 6 t) (xin V c 7 t) (xin V c 8 t) (xin V c 9 t) (xin V c 10 t) (xin V c 11 t) (xin V c 12 t) (xin V c 13 t) (Y 14)
  iintro ⟨⟨%s, HA, HB, HC, Hp, HT⟩, Ho, H0, H1, H2, H3, H4, H5, H6, H7, H8, H9, H10, H11, H12, H13, H14⟩
  iapply (triple_frame Variants.none c (R := iprop((∃ r, prngReg c r) ∗ (rdat V hg c).owesAt () t.castSucc)) (key (st V hg c s t.val).A (st V hg c s t.val).B (st V hg c s t.val).C) ?_)
  · intro _
    iintro ⟨⟨HT, H0, H1, H2, H3, H4, H5, H6, H7, H8, H9, H10, H11, H12, H13, H14, HA, HB, HC⟩, Hp, Ho⟩
    isplitl [HA HB HC Hp HT]
    · iexists s
      rw [show t.succ.val = t.val + 1 from rfl, st_succ V hg c s t]
      isplitl [HA]; · iexact HA
      isplitl [HB]; · iexact HB
      isplitl [HC]; · iexact HC
      isplitl [Hp]; · iexact Hp
      iexact HT
    isplitl [Ho]; · iexact Ho
    isplitl [H0]
    · iexists _; isplitr [H0]
      · ipureintro; exact e0.symm
      · iexact H0
    isplitl [H1]
    · iexists _; isplitr [H1]
      · ipureintro; exact e1.symm
      · iexact H1
    isplitl [H2]
    · iexists _; isplitr [H2]
      · ipureintro; exact e2.symm
      · iexact H2
    isplitl [H3]
    · iexists _; isplitr [H3]
      · ipureintro; exact e3.symm
      · iexact H3
    isplitl [H4]
    · iexists _; isplitr [H4]
      · ipureintro; exact e4.symm
      · iexact H4
    isplitl [H5]
    · iexists _; isplitr [H5]
      · ipureintro; exact e5.symm
      · iexact H5
    isplitl [H6]
    · iexists _; isplitr [H6]
      · ipureintro; exact e6.symm
      · iexact H6
    isplitl [H7]
    · iexists _; isplitr [H7]
      · ipureintro; exact e7.symm
      · iexact H7
    isplitl [H8]
    · iexists _; isplitr [H8]
      · ipureintro; exact e8.symm
      · iexact H8
    isplitl [H9]
    · iexists _; isplitr [H9]
      · ipureintro; exact e9.symm
      · iexact H9
    isplitl [H10]
    · iexists _; isplitr [H10]
      · ipureintro; exact e10.symm
      · iexact H10
    isplitl [H11]
    · iexists _; isplitr [H11]
      · ipureintro; exact e11.symm
      · iexact H11
    isplitl [H12]
    · iexists _; isplitr [H12]
      · ipureintro; exact e12.symm
      · iexact H12
    isplitl [H13]
    · iexists _; isplitr [H13]
      · ipureintro; exact e13.symm
      · iexact H13
    iexists _; isplitr [H14]
    · ipureintro; exact ⟨s, rfl⟩
    · iexact H14
  · isplitr [Hp Ho]
    · isplitl [HT]; · iexact HT
      isplitl [H0]; · rw [← e0]; iexact H0
      isplitl [H1]; · rw [← e1]; iexact H1
      isplitl [H2]; · rw [← e2]; iexact H2
      isplitl [H3]; · rw [← e3]; iexact H3
      isplitl [H4]; · rw [← e4]; iexact H4
      isplitl [H5]; · rw [← e5]; iexact H5
      isplitl [H6]; · rw [← e6]; iexact H6
      isplitl [H7]; · rw [← e7]; iexact H7
      isplitl [H8]; · rw [← e8]; iexact H8
      isplitl [H9]; · rw [← e9]; iexact H9
      isplitl [H10]; · rw [← e10]; iexact H10
      isplitl [H11]; · rw [← e11]; iexact H11
      isplitl [H12]; · rw [← e12]; iexact H12
      isplitl [H13]; · rw [← e13]; iexact H13
      isplitl [H14]; · iexact H14
      isplitl [HA]; · iexact HA
      isplitl [HB]; · iexact HB
      iexact HC
    · isplitl [Hp]; · iexact Hp
      iexact Ho

/-- Every run of the program ends with the result's array as the proof data say, every other buffer outside the
    pipeline's own as it was at the pipeline's entry, and every semaphore counter at zero. -/
theorem run_post (m : (ℓ : Loc nD τ sig) → Buf (Elt F) ℓ) (ρ : Dev nD → PrngReg)
    (hmain : Pipeline.HMainP (Ix := Unit) (Name := ℕ) (U := UR sig nD τ) (Lvl := ℕ) (pcfgs (F := F)) 0 (defs₀ (F := F)) Variants.none m (main (F := F)) V) :
    θ_run (defs (F := F)) (onTc (main (F := F))) ⟨m, fun _ => 0, ρ⟩ fun r => RDat.FramePost (cf V) (rdat V hg) V r ∧ r.2.sem = fun _ => 0 :=
  RDat.θ_run_frameP_track (Q' := _) (pcfgs (F := F)) (adm V) 0 launch0 (defs₀ (F := F)) Variants.none (rdat V hg) m ρ (main (F := F))
    (body_obligation V hg)
    (fun c w => RDat.share_full (rdat V hg c) (fun _ => rfl) w)
    (fun _ _ => rfl) V hmain (fun _ _ => rfl)
    (fun c k => by rw [Subsingleton.elim c 0]; rfl)
    (fun c => by
      rw [rdat_Φ]; unfold Pipeline.ΦA Pipeline.ΦT Pipeline.prefHeld
      rw [scopedRest0_eq, show (Finset.univ : Finset (Fin pre0.K)) = {(0 : Fin 1)} from rfl, BI.bigSep_singleton]
      simp only [owns_whole_eq]
      iintro ⟨⟨⟨⟨%f0, H0⟩, ⟨%f1, H1⟩, ⟨%f2, H2⟩⟩, Hp⟩, HT⟩
      iexists (⟨f0, f1, f2⟩ : Scr F)
      isplitl [H0]; · iexists _; isplitr; · ipureintro; rfl
                      iexact H0
      isplitl [H1]; · iexists _; isplitr; · ipureintro; rfl
                      iexact H1
      isplitl [H2]; · iexists _; isplitr; · ipureintro; rfl
                      iexact H2
      isplitl [Hp]; · iexact Hp
      iexists (tab V c); isplitr; · ipureintro; rfl
      rw [Subsingleton.elim c 0]
      iexact HT)
    (fun c => by
      rw [rdat_Φ]; unfold Pipeline.ΦA
      rw [scopedRest0_eq]
      simp only [owns_whole_eq]
      iintro ⟨%s, ⟨%f0, -, H0⟩, ⟨%f1, -, H1⟩, ⟨%f2, -, H2⟩, Hp, -⟩
      isplitr [Hp]
      · isplitl [H0]; · iexists _; iexact H0
        isplitl [H1]; · iexists _; iexact H1
        iexists _; iexact H2
      · iexact Hp)

end Data

end Cert.KernelIdeal.Hand

end
-- ==== Proof.KernelIdeal.Host.lean ====
/-
  The host operations before the kernel's pipeline: what they leave in the buffers that the pipeline reads.
-/
module

public import proofs.«01_k».proof.Proof.Gen.KernelIdeal
public import proofs.«01_k».proof.Proof.Gen.KernelIdeal.Launch
public import Idealize.ShloMosaic.Lib.Pipeline.Frame
public import Idealize.ShloMosaic.Lib.StableHlo.RunRead
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The host operations, stretch by stretch. -/
abbrev hostStretches : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- The host operations. -/
abbrev hostOps : List (HloOp τ sig (Elt F)) := (hostStretches (F := F)).flatten

/-- The buffers at the pipeline's entry. -/
def entryV (m : (ℓ : Loc nD τ sig) → Buf (Elt F) ℓ) (c : Dev nD) (b : Ref sig .tc) : Buf (Elt F) ((c.tc : Thread nD τ).loc b) :=
  StableHlo.after (hostOps (F := F)) (fun b => m (c, b)) b

/-- The program is its host operations and then the pipeline. -/
theorem hmain (m : (ℓ : Loc nD τ sig) → Buf (Elt F) ℓ) :
    Pipeline.HMainP (Ix := Unit) (Name := ℕ) (U := UR sig nD τ) (Lvl := ℕ) (pcfgs (F := F)) 0 (defs₀ (F := F)) Variants.none m (main (F := F)) (entryV m) :=
  Pipeline.hmainP_prefixes (pcfgs (F := F)) 0 (defs₀ (F := F)) Variants.none m (main (F := F)) hostStretches
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩
    (by refine ⟨?_, ?_, ?_, ?_, ?_, ?_, ?_, ?_, ?_, ?_, ?_, ?_, ?_, ?_, ?_, ?_, ?_, ?_, ?_⟩ <;> repeat' (first | exact rfl | refine ⟨rfl, ?_⟩))
    main_chain

/-! No host operation writes an argument. -/

theorem entry_arg0 (m : (ℓ : Loc nD τ sig) → Buf (Elt F) ℓ) (c : Dev nD) : entryV m c main_arg0 = m ((c.tc : Thread nD τ).loc main_arg0) := by
  show StableHlo.after (hostOps (F := F)) (fun b => m (c, b)) (Proc.devRef .tc main_arg0) = _
  after_reads_simp

theorem entry_arg1 (m : (ℓ : Loc nD τ sig) → Buf (Elt F) ℓ) (c : Dev nD) : entryV m c main_arg1 = m ((c.tc : Thread nD τ).loc main_arg1) := by
  show StableHlo.after (hostOps (F := F)) (fun b => m (c, b)) (Proc.devRef .tc main_arg1) = _
  after_reads_simp

theorem entry_arg2 (m : (ℓ : Loc nD τ sig) → Buf (Elt F) ℓ) (c : Dev nD) : entryV m c main_arg2 = m ((c.tc : Thread nD τ).loc main_arg2) := by
  show StableHlo.after (hostOps (F := F)) (fun b => m (c, b)) (Proc.devRef .tc main_arg2) = _
  after_reads_simp

theorem entry_arg3 (m : (ℓ : Loc nD τ sig) → Buf (Elt F) ℓ) (c : Dev nD) : entryV m c main_arg3 = m ((c.tc : Thread nD τ).loc main_arg3) := by
  show StableHlo.after (hostOps (F := F)) (fun b => m (c, b)) (Proc.devRef .tc main_arg3) = _
  after_reads_simp

theorem entry_arg4 (m : (ℓ : Loc nD τ sig) → Buf (Elt F) ℓ) (c : Dev nD) : entryV m c main_arg4 = m ((c.tc : Thread nD τ).loc main_arg4) := by
  show StableHlo.after (hostOps (F := F)) (fun b => m (c, b)) (Proc.devRef .tc main_arg4) = _
  after_reads_simp

theorem entry_arg5 (m : (ℓ : Loc nD τ sig) → Buf (Elt F) ℓ) (c : Dev nD) : entryV m c main_arg5 = m ((c.tc : Thread nD τ).loc main_arg5) := by
  show StableHlo.after (hostOps (F := F)) (fun b => m (c, b)) (Proc.devRef .tc main_arg5) = _
  after_reads_simp

theorem entry_arg6 (m : (ℓ : Loc nD τ sig) → Buf (Elt F) ℓ) (c : Dev nD) : entryV m c main_arg6 = m ((c.tc : Thread nD τ).loc main_arg6) := by
  show StableHlo.after (hostOps (F := F)) (fun b => m (c, b)) (Proc.devRef .tc main_arg6) = _
  after_reads_simp

theorem entry_arg7 (m : (ℓ : Loc nD τ sig) → Buf (Elt F) ℓ) (c : Dev nD) : entryV m c main_arg7 = m ((c.tc : Thread nD τ).loc main_arg7) := by
  show StableHlo.after (hostOps (F := F)) (fun b => m (c, b)) (Proc.devRef .tc main_arg7) = _
  after_reads_simp

theorem entry_arg8 (m : (ℓ : Loc nD τ sig) → Buf (Elt F) ℓ) (c : Dev nD) : entryV m c main_arg8 = m ((c.tc : Thread nD τ).loc main_arg8) := by
  show StableHlo.after (hostOps (F := F)) (fun b => m (c, b)) (Proc.devRef .tc main_arg8) = _
  after_reads_simp

theorem entry_arg9 (m : (ℓ : Loc nD τ sig) → Buf (Elt F) ℓ) (c : Dev nD) : entryV m c main_arg9 = m ((c.tc : Thread nD τ).loc main_arg9) := by
  show StableHlo.after (hostOps (F := F)) (fun b => m (c, b)) (Proc.devRef .tc main_arg9) = _
  after_reads_simp

theorem entry_arg10 (m : (ℓ : Loc nD τ sig) → Buf (Elt F) ℓ) (c : Dev nD) : entryV m c main_arg10 = m ((c.tc : Thread nD τ).loc main_arg10) := by
  show StableHlo.after (hostOps (F := F)) (fun b => m (c, b)) (Proc.devRef .tc main_arg10) = _
  after_reads_simp

theorem entry_arg11 (m : (ℓ : Loc nD τ sig) → Buf (Elt F) ℓ) (c : Dev nD) : entryV m c main_arg11 = m ((c.tc : Thread nD τ).loc main_arg11) := by
  show StableHlo.after (hostOps (F := F)) (fun b => m (c, b)) (Proc.devRef .tc main_arg11) = _
  after_reads_simp

/-- The chunk's segment number rounded down to a multiple of 16, as the host computes it. -/
def floor16 (x : BitVec 32) : BitVec 32 :=
  IntOp.muli
    (Scalar.select
      (IntOp.andi
        (IntOp.cmpi .ne (if x = 0 then 0 else if BitVec.msb x = true then -1 else 1 : BitVec 32)
          (if 16#32 = 0 then 0 else if (16#32).msb = true then -1 else 1))
        (IntOp.cmpi .ne (IntOp.remsi .host x 16#32) 0#32))
      (IntOp.subi (IntOp.divsi .host x 16#32) 1#32)
      (IntOp.divsi .host x 16#32))
    16#32

theorem floor16_ofNat : ∀ n : Fin 256, floor16 (BitVec.ofNat 32 n.val) = BitVec.ofNat 32 (16 * (n.val / 16)) := by
  decide +kernel

theorem floor16_eq (x : BitVec 32) (h : x.toNat < 256) : floor16 x = BitVec.ofNat 32 (16 * (x.toNat / 16)) := by
  have := floor16_ofNat ⟨x.toNat, h⟩
  rwa [BitVec.ofNat_toNat, BitVec.setWidth_eq] at this

/-- The segment numbers. -/
abbrev batchOf (m : (ℓ : Loc nD τ sig) → Buf (Elt F) ℓ) (c : Dev nD) : IVec S10000 32 := m ((c.tc : Thread nD τ).loc main_arg3)

theorem upto_v7 (m : (ℓ : Loc nD τ sig) → Buf (Elt F) ℓ) (c : Dev nD) (j : Fin 25) :
    (StableHlo.upto (hostOps (F := F)) (fun b => m (c, b)) 27 (Proc.devRef .tc main_v7) : IVec S1x25 32) (ix2 0 j)
      = floor16 (batchOf m c (ix1 ⟨400 * j.val, by omega⟩)) := by
  after_reads_simp
  simp only [StableHlo.TRef.ofBuf, StableHlo.TRef.toBuf, cast_eq, id]
  pointwise
  rfl

theorem upto_v8 (m : (ℓ : Loc nD τ sig) → Buf (Elt F) ℓ) (c : Dev nD) (j : Fin 25) :
    (StableHlo.upto (hostOps (F := F)) (fun b => m (c, b)) 27 (Proc.devRef .tc main_v8) : IVec S1x25 32) (ix2 0 j)
      = batchOf m c (ix1 ⟨399 + 400 * j.val, by omega⟩) := by
  after_reads_simp
  pointwise

/-- The table is the two rows, one over the other. -/
theorem entry_tab (m : (ℓ : Loc nD τ sig) → Buf (Elt F) ℓ) (c : Dev nD) :
    (entryV m c main_v9 : IVec S2x25 32) = concatenate S2x25 0
      [⟨S1x25, (StableHlo.upto (hostOps (F := F)) (fun b => m (c, b)) 27 (Proc.devRef .tc main_v7) : IVec S1x25 32)⟩,
       ⟨S1x25, (StableHlo.upto (hostOps (F := F)) (fun b => m (c, b)) 27 (Proc.devRef .tc main_v8) : IVec S1x25 32)⟩] concatenates_S1x25_S1x25_S2x25_d0 := by
  show StableHlo.after (hostOps (F := F)) (fun b => m (c, b)) (Proc.devRef .tc main_v9) = _
  after_reads_simp

/-- The first row of the table: each chunk's first segment number rounded down to a multiple of 16. -/
theorem entry_tab0 (m : (ℓ : Loc nD τ sig) → Buf (Elt F) ℓ) (c : Dev nD) (j : Fin 25) :
    (entryV m c main_v9 : IVec S2x25 32) (ix2 0 j) = floor16 (batchOf m c (ix1 ⟨400 * j.val, by omega⟩)) := by
  rw [entry_tab, ← upto_v7]
  pointwise

/-- The second row of the table: each chunk's last segment number. -/
theorem entry_tab1 (m : (ℓ : Loc nD τ sig) → Buf (Elt F) ℓ) (c : Dev nD) (j : Fin 25) :
    (entryV m c main_v9 : IVec S2x25 32) (ix2 1 j) = batchOf m c (ix1 ⟨399 + 400 * j.val, by omega⟩) := by
  rw [entry_tab, ← upto_v8]
  pointwise

end Cert.KernelIdeal.Hand

end
-- ==== Proof.KernelIdeal.Words.lean ====
/-
  The index words of the kernel: with a window's first row a multiple of 16 and a last row below 256, the loops' trip
  counts and every window's first row, as numbers; and with them the side conditions of the body.
-/
module

public import proofs.«01_k».proof.KernelIdeal

@[expose] public section

set_option maxRecDepth 16384

noncomputable section

namespace Cert.KernelIdeal.Hand

open Cert.KernelIdeal
open Idealize.ShloMosaic

/-- The word of `16 · a`. -/
abbrev baseW (a : Fin 16) : BitVec 32 := BitVec.ofNat 32 (16 * a.val)

/-- The word of `l`. -/
abbrev lastW (l : Fin 256) : BitVec 32 := BitVec.ofNat 32 l.val

/-- The scatter's loop runs one trip fewer than there are windows of 32 rows from `16 · a` to `l`; its remainder loop none. -/
theorem loop_t1 : ∀ (a : Fin 16) (l : Fin 256), 16 * a.val ≤ l.val →
    (k0_t1_loop (baseW a) (lastW l)).OK ∧ (k0_t1_loop (baseW a) (lastW l)).trips = (l.val - 16 * a.val) / 32
      ∧ (k0_t2_loop (baseW a) (lastW l)).OK ∧ (k0_t2_loop (baseW a) (lastW l)).trips = 0 := by
  decide +kernel

/-- The same of the gather's loops. -/
theorem loop_t3 : ∀ (a : Fin 16) (l : Fin 256), 16 * a.val ≤ l.val →
    (k0_t3_loop (baseW a) (lastW l)).OK ∧ (k0_t3_loop (baseW a) (lastW l)).trips = (l.val - 16 * a.val) / 32
      ∧ (k0_t4_loop (baseW a) (lastW l)).OK ∧ (k0_t4_loop (baseW a) (lastW l)).trips = 0 := by
  decide +kernel

/-- The first row of window `p + 1`, as a word. -/
theorem row_word : ∀ (a : Fin 16) (p : Fin 8),
    (baseW a + Scf.iv 1#32 1#32 p.val * 32#32).toNat = 16 * a.val + 32 * (p.val + 1) := by
  decide +kernel

/-- The first window's first row. -/
theorem off4_eq (a : Fin 16) : k0_off4 (baseW a) = ![0, 16 * a.val, 0] := by
  revert a; decide +kernel

/-- The first window's first row, in the gather. -/
theorem off10_eq (a : Fin 16) : k0_off10 (baseW a) = ![0, 16 * a.val, 0] := by
  revert a; decide +kernel

/-- The later windows' first rows. -/
theorem off5_eq (a : Fin 16) (l : Fin 256) (h : 16 * a.val ≤ l.val) (p : Fin (k0_t1_loop (baseW a) (lastW l)).trips) :
    k0_off5 (baseW a) (lastW l) p = ![0, 16 * a.val + 32 * (p.val + 1), 0] := by
  have hp : p.val < 8 := lt_of_lt_of_le p.isLt (by rw [(loop_t1 a l h).2.1]; omega)
  have := row_word a ⟨p.val, hp⟩
  show ![0, (baseW a + Scf.iv 1#32 1#32 p.val * 32#32).toNat, 0] = _
  rw [this]

/-- The later windows' first rows, in the gather. -/
theorem off11_eq (a : Fin 16) (l : Fin 256) (h : 16 * a.val ≤ l.val) (p : Fin (k0_t3_loop (baseW a) (lastW l)).trips) :
    k0_off11 (baseW a) (lastW l) p = ![0, 16 * a.val + 32 * (p.val + 1), 0] := by
  have hp : p.val < 8 := lt_of_lt_of_le p.isLt (by rw [(loop_t3 a l h).2.1]; omega)
  have := row_word a ⟨p.val, hp⟩
  show ![0, (baseW a + Scf.iv 1#32 1#32 p.val * 32#32).toNat, 0] = _
  rw [this]

/-- A window of 32 rows from row `r` on lies within the 288 rows. -/
theorem rows_inb (r : ℕ) (hr : r + 32 ≤ 288) : ∀ a, (![0, r, 0] : Fin 3 → ℕ) a + S64x32x128.size a ≤ S64x288x128.size a := by
  intro a
  match a with
  | 0 => exact le_refl _
  | 1 => exact hr
  | 2 => exact le_refl _

/-- The scatter's first side condition. -/
theorem chk1_words (i : grid0.Coords) (a : Fin 16) : k0_chk1 i (baseW a) := by
  refine ⟨fun _ => ?_, fun _ => ?_⟩
  · revert a; decide +kernel
  · rw [off4_eq]; exact rows_inb _ (by omega)

/-- The scatter's second side condition. -/
theorem chk2_words (i : grid0.Coords) (a : Fin 16) (l : Fin 256) (h : 16 * a.val ≤ l.val) : k0_chk2 i (baseW a) (lastW l) := by
  have hl := loop_t1 a l h
  have hp : ∀ p : Fin (k0_t1_loop (baseW a) (lastW l)).trips, p.val < (l.val - 16 * a.val) / 32 := fun p =>
    lt_of_lt_of_eq p.isLt hl.2.1
  have h0 : ∀ p : Fin (k0_t2_loop (baseW a) (lastW l)).trips, False := fun p =>
    Nat.not_lt_zero _ (lt_of_lt_of_eq p.isLt hl.2.2.2)
  refine ⟨fun _ => hl.1, fun p _ => ?_, fun p _ => ?_, fun _ => hl.2.2.1, fun p => (h0 p).elim, fun p => (h0 p).elim⟩
  · show 16 ∣ (baseW a + Scf.iv 1#32 1#32 p.val * 32#32).toNat
    have := hp p
    rw [row_word a ⟨p.val, by omega⟩]
    show 16 ∣ 16 * a.val + 32 * (p.val + 1)
    omega
  · rw [off5_eq a l h]; have := hp p; exact rows_inb _ (by omega)

/-- The gather's first side condition. -/
theorem chk3_words (i : grid0.Coords) (a : Fin 16) : k0_chk3 i (baseW a) := by
  refine ⟨fun _ => ?_, fun _ => ?_⟩
  · revert a; decide +kernel
  · rw [off10_eq]; exact rows_inb _ (by omega)

/-- The gather's second side condition. -/
theorem chk4_words (i : grid0.Coords) (a : Fin 16) (l : Fin 256) (h : 16 * a.val ≤ l.val) : k0_chk4 i (baseW a) (lastW l) := by
  have hl := loop_t3 a l h
  have hp : ∀ p : Fin (k0_t3_loop (baseW a) (lastW l)).trips, p.val < (l.val - 16 * a.val) / 32 := fun p =>
    lt_of_lt_of_eq p.isLt hl.2.1
  have h0 : ∀ p : Fin (k0_t4_loop (baseW a) (lastW l)).trips, False := fun p =>
    Nat.not_lt_zero _ (lt_of_lt_of_eq p.isLt hl.2.2.2)
  refine ⟨fun _ => hl.1, fun p _ => ?_, fun p _ => ?_, fun _ => hl.2.2.1, fun p => (h0 p).elim, fun p => (h0 p).elim⟩
  · show 16 ∣ (baseW a + Scf.iv 1#32 1#32 p.val * 32#32).toNat
    have := hp p
    rw [row_word a ⟨p.val, by omega⟩]
    show 16 ∣ 16 * a.val + 32 * (p.val + 1)
    omega
  · rw [off11_eq a l h]; have := hp p; exact rows_inb _ (by omega)

/-- The column of the table that a point reads: its chunk. -/
theorem off2_eq (i : grid0.Coords) : k0_off2 i = ![0, min (i 0).val 24] := by
  revert i; decide +kernel

theorem off3_eq (i : grid0.Coords) : k0_off3 i = ![1, min (i 0).val 24] := by
  revert i; decide +kernel

theorem off8_eq (i : grid0.Coords) : k0_off8 i = ![0, (i 0).val - 25] := by
  revert i; decide +kernel

theorem off9_eq (i : grid0.Coords) : k0_off9 i = ![1, (i 0).val - 25] := by
  revert i; decide +kernel

/-- The first row of a chunk's coefficients. -/
theorem off1_eq (i : grid0.Coords) : k0_off1 i = ![min (i 0).val 24 * 400, 0] := by
  revert i; decide +kernel

theorem off7_eq (i : grid0.Coords) : k0_off7 i = ![((i 0).val - 25) * 400, 0] := by
  revert i; decide +kernel

end Cert.KernelIdeal.Hand

end
-- ==== Proof.KernelIdeal.Frame.lean ====
/-
  Under the precondition the program runs, leaves its arguments as they were and every semaphore counter at zero.
-/
module

public import proofs.«01_k».proof.Proof.KernelIdeal.Run
public import proofs.«01_k».proof.Proof.KernelIdeal.Host
public import proofs.«01_k».proof.Proof.KernelIdeal.Words
public import proofs.«01_k».proof.Proof.Sorted

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- A word of the table is its entry at the word's row and column. -/
theorem word_eq (T : Vec F S2x25 .i32) (o : Fin 2 → ℕ) (inb : ∀ a, o a + S1x1.size a ≤ S2x25.size a) (r : Fin 2) (j : Fin 25)
    (ho : o = ![r.val, j.val]) : word T o inb = T (ix2 r j) := by
  subst ho
  unfold word VecWindow.window
  congr 1
  funext a
  match a with
  | 0 => exact Fin.ext (by simp)
  | 1 => exact Fin.ext (by simp)

/-- The first row of the windows of chunk `j`, divided by 16. -/
def baseOf (b : IVec S10000 32) (hb : Cert.Hand.Sorted b) (j : Fin 25) : Fin 16 :=
  ⟨(b (ix1 ⟨400 * j.val, by omega⟩)).toNat / 16, by have := hb.lt ⟨400 * j.val, by omega⟩; omega⟩

/-- The last segment number of chunk `j`. -/
def lastOf (b : IVec S10000 32) (hb : Cert.Hand.Sorted b) (j : Fin 25) : Fin 256 :=
  ⟨(b (ix1 ⟨399 + 400 * j.val, by omega⟩)).toNat, hb.lt _⟩

theorem base_le_last (b : IVec S10000 32) (hb : Cert.Hand.Sorted b) (j : Fin 25) : 16 * (baseOf b hb j).val ≤ (lastOf b hb j).val := by
  have := hb.mono (n := ⟨400 * j.val, by omega⟩) (n' := ⟨399 + 400 * j.val, by omega⟩) (by show 400 * j.val ≤ 399 + 400 * j.val; omega)
  show 16 * ((b (ix1 ⟨400 * j.val, _⟩)).toNat / 16) ≤ (b (ix1 ⟨399 + 400 * j.val, _⟩)).toNat
  omega

variable (m : (ℓ : Loc nD τ sig) → Buf (Elt F) ℓ) (c : Dev nD)

theorem tab_base (hb : Cert.Hand.Sorted (batchOf m c)) (o : Fin 2 → ℕ) (inb : ∀ a, o a + S1x1.size a ≤ S2x25.size a) (j : Fin 25)
    (ho : o = ![0, j.val]) : word (tab (entryV m) c) o inb = baseW (baseOf _ hb j) := by
  rw [word_eq _ _ _ 0 j ho]
  exact (entry_tab0 m c j).trans (floor16_eq _ (hb.lt _))

theorem tab_last (hb : Cert.Hand.Sorted (batchOf m c)) (o : Fin 2 → ℕ) (inb : ∀ a, o a + S1x1.size a ≤ S2x25.size a) (j : Fin 25)
    (ho : o = ![1, j.val]) : word (tab (entryV m) c) o inb = lastW (lastOf _ hb j) := by
  rw [word_eq _ _ _ 1 j ho]
  refine (entry_tab1 m c j).trans ?_
  show _ = BitVec.ofNat 32 (batchOf m c (ix1 ⟨399 + 400 * j.val, _⟩)).toNat
  rw [BitVec.ofNat_toNat, BitVec.setWidth_eq]

/-- The precondition gives the side conditions at every point. -/
theorem checked (hb : Cert.Hand.Sorted (batchOf m c)) : Checked (tab (entryV m) c) where
  c1 i h2 := by
    rw [tab_base m c hb _ _ ⟨min (i 0).val 24, by omega⟩ (off2_eq i)]
    exact chk1_words i _
  c2 i h2 := by
    rw [tab_base m c hb _ _ ⟨min (i 0).val 24, by omega⟩ (off2_eq i), tab_last m c hb _ _ ⟨min (i 0).val 24, by omega⟩ (off3_eq i)]
    exact chk2_words i _ _ (base_le_last _ hb _)
  c3 i h4 := by
    have : (i 0).val < 50 := (i 0).isLt
    rw [tab_base m c hb _ _ ⟨(i 0).val - 25, by omega⟩ (off8_eq i)]
    exact chk3_words i _
  c4 i h4 := by
    have : (i 0).val < 50 := (i 0).isLt
    rw [tab_base m c hb _ _ ⟨(i 0).val - 25, by omega⟩ (off8_eq i), tab_last m c hb _ _ ⟨(i 0).val - 25, by omega⟩ (off9_eq i)]
    exact chk4_words i _ _ (base_le_last _ hb _)

/-- The run under the precondition. -/
theorem run_sorted (hb : ∀ c, Cert.Hand.Sorted (batchOf m c)) (ρ : Dev nD → PrngReg) :
    θ_run (defs (F := F)) (onTc (main (F := F))) ⟨m, fun _ => 0, ρ⟩
      fun r => Pipeline.RDat.FramePost (cf (entryV m)) (rdat (entryV m) fun c => checked m c (hb c)) (entryV m) r ∧ r.2.sem = fun _ => 0 :=
  run_post (entryV m) (fun c => checked m c (hb c)) m ρ (hmain m)

/-- What a run leaves in a buffer that is no window's array. -/
theorem rest_eq {hg : ∀ c, Checked (tab (entryV m) c)} {r : PUnit × MemSt nD τ sig (Elt F)} (h : Pipeline.RDat.FramePost (cf (entryV m)) (rdat (entryV m) hg) (entryV m) r)
    (b : Ref sig .tc) (hs : b.isScoped = false) (ha : ∀ w, (spec0 w).arr.view.ref ≠ b) :
    r.2.mem ((c.tc : Thread nD τ).loc b) = entryV m c b :=
  (h c).2 b (Pipeline.mem_restRefs_of b hs ha)

/-- A run leaves the arguments as they were. -/
theorem args_kept {hg : ∀ c, Checked (tab (entryV m) c)} {r : PUnit × MemSt nD τ sig (Elt F)} (h : Pipeline.RDat.FramePost (cf (entryV m)) (rdat (entryV m) hg) (entryV m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(h.arr_in c 0 rfl).trans (entry_arg0 m c),
   (rest_eq m c h main_arg1 rfl (by decide +kernel)).trans (entry_arg1 m c),
   (rest_eq m c h main_arg2 rfl (by decide +kernel)).trans (entry_arg2 m c),
   (rest_eq m c h main_arg3 rfl (by decide +kernel)).trans (entry_arg3 m c),
   (rest_eq m c h main_arg4 rfl (by decide +kernel)).trans (entry_arg4 m c),
   (rest_eq m c h main_arg5 rfl (by decide +kernel)).trans (entry_arg5 m c),
   (rest_eq m c h main_arg6 rfl (by decide +kernel)).trans (entry_arg6 m c),
   (rest_eq m c h main_arg7 rfl (by decide +kernel)).trans (entry_arg7 m c),
   (rest_eq m c h main_arg8 rfl (by decide +kernel)).trans (entry_arg8 m c),
   (rest_eq m c h main_arg9 rfl (by decide +kernel)).trans (entry_arg9 m c),
   (rest_eq m c h main_arg10 rfl (by decide +kernel)).trans (entry_arg10 m c),
   (rest_eq m c h main_arg11 rfl (by decide +kernel)).trans (entry_arg11 m c)⟩

/-- The arguments are left as they were, and the counters are at zero. -/
theorem frame_sorted (hb : ∀ c, Cert.Hand.Sorted (batchOf m c)) (ρ : Dev nD → PrngReg) :
    θ_run (defs (F := F)) (onTc (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0 :=
  (θ_run defs _ _).mono (fun r h => ⟨fun c => args_kept m c h.1, h.2⟩) (run_sorted m hb ρ)

end Cert.KernelIdeal.Hand

end
-- ==== Proof.KernelIdeal.Blocks.lean ====
/-
  The blocks that the kernel reads, at an index of their arrays: chunk `t % 25` of the atoms' arrays, and the whole of
  each of the others.
-/
module

public import proofs.«01_k».proof.Proof.KernelIdeal.Run
public import Idealize.ShloMosaic.Lib.Pipeline.Value
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem coords_val : ∀ t : Fin 50, (grid0.coords t 0).val = t.val := by decide +kernel

variable (V : ∀ c : Dev nD, ∀ b : Ref sig .tc, Buf (Elt F) ((c.tc : Thread nD τ).loc b)) (c : Dev nD)

theorem xin_read (w : Fin 15) (t : Fin (cf V).N) :
    xin V c w t = (((cf V).win w).blk t).view.read (Elt F) (V c (Pipeline.arrRef (cf V).spec w)) := by
  funext y
  exact dif_pos (((cf V).win w).moved_iff _ y |>.mpr fun a => by
    have := (y a).isLt
    unfold Pipeline.Window.xsize
    rw [no_clip V w _ a]
    exact this)

/-- An atom of the chunk of point `t`. -/
def atom (t : ℕ) (n : Fin 400) : Fin 10000 := ⟨t % 25 * 400 + n.val, by omega⟩

theorem at_block {i k n s j : ℕ} (h : i = k) (hj : k * s + n = j) : i * s + n = j := by subst h; exact hj

theorem at_unit {i k j : ℕ} (h : i = k) (hj : k = j) : i + 0 = j := by subst h; exact hj

theorem index0 (t : Fin (cf V).N) : ((pcfgs (F := F) 0).win (adm V 0) 0).index t = ![t.val % 25, 0] := by
  have h : ∀ t : Fin 50, cc0_transform_0 (grid0.coords t) = ![t.val % 25, 0] := by decide +kernel
  exact h t

theorem index1 (t : Fin (cf V).N) : ((pcfgs (F := F) 0).win (adm V 0) 1).index t = ![t.val % 25, 0, 0] := by
  have h : ∀ t : Fin 50, cc0_transform_1 (grid0.coords t) = ![t.val % 25, 0, 0] := by decide +kernel
  exact h t

theorem index2 (t : Fin (cf V).N) : ((pcfgs (F := F) 0).win (adm V 0) 2).index t = ![t.val % 25, 0, 0] := by
  have h : ∀ t : Fin 50, cc0_transform_2 (grid0.coords t) = ![t.val % 25, 0, 0] := by decide +kernel
  exact h t

theorem index3 (t : Fin (cf V).N) : ((pcfgs (F := F) 0).win (adm V 0) 3).index t = ![t.val % 25, 0, 0] := by
  have h : ∀ t : Fin 50, cc0_transform_3 (grid0.coords t) = ![t.val % 25, 0, 0] := by decide +kernel
  exact h t

theorem index4 (t : Fin (cf V).N) : ((pcfgs (F := F) 0).win (adm V 0) 4).index t = ![t.val % 25, 0, 0] := by
  have h : ∀ t : Fin 50, cc0_transform_4 (grid0.coords t) = ![t.val % 25, 0, 0] := by decide +kernel
  exact h t

theorem index5 (t : Fin (cf V).N) : ((pcfgs (F := F) 0).win (adm V 0) 5).index t = ![0, 0] := by
  have h : ∀ t : Fin 50, cc0_transform_5 (grid0.coords t) = ![0, 0] := by decide +kernel
  exact h t

theorem index6 (t : Fin (cf V).N) : ((pcfgs (F := F) 0).win (adm V 0) 6).index t = ![0, 0] := by
  have h : ∀ t : Fin 50, cc0_transform_6 (grid0.coords t) = ![0, 0] := by decide +kernel
  exact h t

theorem index7 (t : Fin (cf V).N) : ((pcfgs (F := F) 0).win (adm V 0) 7).index t = ![0, 0] := by
  have h : ∀ t : Fin 50, cc0_transform_7 (grid0.coords t) = ![0, 0] := by decide +kernel
  exact h t

theorem index8 (t : Fin (cf V).N) : ((pcfgs (F := F) 0).win (adm V 0) 8).index t = ![0, 0] := by
  have h : ∀ t : Fin 50, cc0_transform_8 (grid0.coords t) = ![0, 0] := by decide +kernel
  exact h t

theorem index9 (t : Fin (cf V).N) : ((pcfgs (F := F) 0).win (adm V 0) 9).index t = ![0, 0, 0] := by
  have h : ∀ t : Fin 50, cc0_transform_9 (grid0.coords t) = ![0, 0, 0] := by decide +kernel
  exact h t

theorem index10 (t : Fin (cf V).N) : ((pcfgs (F := F) 0).win (adm V 0) 10).index t = ![0, 0] := by
  have h : ∀ t : Fin 50, cc0_transform_10 (grid0.coords t) = ![0, 0] := by decide +kernel
  exact h t

theorem index11 (t : Fin (cf V).N) : ((pcfgs (F := F) 0).win (adm V 0) 11).index t = ![0, 0] := by
  have h : ∀ t : Fin 50, cc0_transform_11 (grid0.coords t) = ![0, 0] := by decide +kernel
  exact h t

theorem index12 (t : Fin (cf V).N) : ((pcfgs (F := F) 0).win (adm V 0) 12).index t = ![0, 0] := by
  have h : ∀ t : Fin 50, cc0_transform_12 (grid0.coords t) = ![0, 0] := by decide +kernel
  exact h t

theorem index13 (t : Fin (cf V).N) : ((pcfgs (F := F) 0).win (adm V 0) 13).index t = ![0, 0] := by
  have h : ∀ t : Fin 50, cc0_transform_13 (grid0.coords t) = ![0, 0] := by decide +kernel
  exact h t

theorem index14 (t : Fin (cf V).N) : ((pcfgs (F := F) 0).win (adm V 0) 14).index t = ![t.val - 25, 0] := by
  have h : ∀ t : Fin 50, cc0_transform_14 (grid0.coords t) = ![t.val - 25, 0] := by decide +kernel
  exact h t

theorem ins_x (t : Fin (cf V).N) (n : Fin 400) (d : Fin 128) :
    (ins V c t).x (ix2 n d) = (V c main_arg0 : Vec F S10000x128 .f32) (ix2 (atom t.val n) d) := by
  show xin V c 0 t _ = _
  rw [xin_read]
  blk_ext [atom]
  · exact at_block (congrFun (index0 V t) (0 : Fin 2)) (by show t.val % 25 * 400 + _ = _; omega)
  · exact at_block (congrFun (index0 V t) (1 : Fin 2)) (by show 0 * 128 + _ = _; omega)

theorem ins_kd (t : Fin (cf V).N) (q : Fin 32) (n : Fin 400) :
    (ins V c t).kd (ix3 0 q n) = (V c main_v52 : Vec F S25x32x400 .f32) (ix3 ⟨t.val % 25, by omega⟩ q n) := by
  show xin V c 1 t _ = _
  rw [xin_read]
  blk_ext
  · exact at_unit (congrFun (index1 V t) (0 : Fin 3)) rfl
  · exact at_block (congrFun (index1 V t) (1 : Fin 3)) (by show 0 * 32 + _ = _; omega)
  · exact at_block (congrFun (index1 V t) (2 : Fin 3)) (by show 0 * 400 + _ = _; omega)

theorem ins_sc (t : Fin (cf V).N) (q : Fin 32) (n : Fin 400) :
    (ins V c t).sc (ix3 0 q n) = (V c main_v55 : Vec F S25x32x400 .f32) (ix3 ⟨t.val % 25, by omega⟩ q n) := by
  show xin V c 2 t _ = _
  rw [xin_read]
  blk_ext
  · exact at_unit (congrFun (index2 V t) (0 : Fin 3)) rfl
  · exact at_block (congrFun (index2 V t) (1 : Fin 3)) (by show 0 * 32 + _ = _; omega)
  · exact at_block (congrFun (index2 V t) (2 : Fin 3)) (by show 0 * 400 + _ = _; omega)

theorem ins_br (t : Fin (cf V).N) (n : Fin 400) :
    (ins V c t).br (ix3 0 0 n) = (V c main_v0 : IVec S25x1x400 32) (ix3 ⟨t.val % 25, by omega⟩ 0 n) := by
  show xin V c 3 t _ = _
  rw [xin_read]
  blk_ext
  · exact at_unit (congrFun (index3 V t) (0 : Fin 3)) rfl
  · exact at_unit (congrFun (index3 V t) (1 : Fin 3)) rfl
  · exact at_block (congrFun (index3 V t) (2 : Fin 3)) (by show 0 * 400 + _ = _; omega)

theorem ins_bc (t : Fin (cf V).N) (n : Fin 400) :
    (ins V c t).bc (ix3 0 n 0) = (V c main_v1 : IVec S25x400x1 32) (ix3 ⟨t.val % 25, by omega⟩ n 0) := by
  show xin V c 4 t _ = _
  rw [xin_read]
  blk_ext
  · exact at_unit (congrFun (index4 V t) (0 : Fin 3)) rfl
  · exact at_block (congrFun (index4 V t) (1 : Fin 3)) (by show 0 * 400 + _ = _; omega)
  · exact at_unit (congrFun (index4 V t) (2 : Fin 3)) rfl

theorem ins_w1 (t : Fin (cf V).N) (i : Fin 128) (j : Fin 128) :
    (ins V c t).w1 (ix2 i j) = (V c main_v56 : Vec F S128x128 .f32) (ix2 i j) := by
  show xin V c 5 t _ = _
  rw [xin_read]
  blk_ext
  · exact at_block (congrFun (index5 V t) (0 : Fin 2)) (by show 0 * 128 + _ = _; omega)
  · exact at_block (congrFun (index5 V t) (1 : Fin 2)) (by show 0 * 128 + _ = _; omega)

theorem ins_w2 (t : Fin (cf V).N) (i : Fin 128) (j : Fin 128) :
    (ins V c t).w2 (ix2 i j) = (V c main_v57 : Vec F S128x128 .f32) (ix2 i j) := by
  show xin V c 6 t _ = _
  rw [xin_read]
  blk_ext
  · exact at_block (congrFun (index6 V t) (0 : Fin 2)) (by show 0 * 128 + _ = _; omega)
  · exact at_block (congrFun (index6 V t) (1 : Fin 2)) (by show 0 * 128 + _ = _; omega)

theorem ins_et (t : Fin (cf V).N) (i : Fin 2048) (j : Fin 64) :
    (ins V c t).et (ix2 i j) = (V c main_v30 : Vec F S2048x64 .bf16) (ix2 i j) := by
  show xin V c 10 t _ = _
  rw [xin_read]
  blk_ext
  · exact at_block (congrFun (index10 V t) (0 : Fin 2)) (by show 0 * 2048 + _ = _; omega)
  · exact at_block (congrFun (index10 V t) (1 : Fin 2)) (by show 0 * 64 + _ = _; omega)

theorem ins_eb (t : Fin (cf V).N) (i : Fin 64) (j : Fin 2048) :
    (ins V c t).eb (ix2 i j) = (V c main_v49 : Vec F S64x2048 .bf16) (ix2 i j) := by
  show xin V c 11 t _ = _
  rw [xin_read]
  blk_ext
  · exact at_block (congrFun (index11 V t) (0 : Fin 2)) (by show 0 * 64 + _ = _; omega)
  · exact at_block (congrFun (index11 V t) (1 : Fin 2)) (by show 0 * 2048 + _ = _; omega)

theorem ins_u1 (t : Fin (cf V).N) (i : Fin 128) (j : Fin 128) :
    (ins V c t).u1 (ix2 i j) = (V c main_v58 : Vec F S128x128 .f32) (ix2 i j) := by
  show xin V c 12 t _ = _
  rw [xin_read]
  blk_ext
  · exact at_block (congrFun (index12 V t) (0 : Fin 2)) (by show 0 * 128 + _ = _; omega)
  · exact at_block (congrFun (index12 V t) (1 : Fin 2)) (by show 0 * 128 + _ = _; omega)

theorem ins_u2 (t : Fin (cf V).N) (i : Fin 128) (j : Fin 128) :
    (ins V c t).u2 (ix2 i j) = (V c main_v59 : Vec F S128x128 .f32) (ix2 i j) := by
  show xin V c 13 t _ = _
  rw [xin_read]
  blk_ext
  · exact at_block (congrFun (index13 V t) (0 : Fin 2)) (by show 0 * 128 + _ = _; omega)
  · exact at_block (congrFun (index13 V t) (1 : Fin 2)) (by show 0 * 128 + _ = _; omega)

theorem ins_ga (t : Fin (cf V).N) (j : Fin 128) :
    (ins V c t).ga (ix2 0 j) = (V c main_v15 : Vec F S1x128 .f32) (ix2 0 j) := by
  show xin V c 7 t _ = _
  rw [xin_read]
  blk_ext
  · exact at_unit (congrFun (index7 V t) (0 : Fin 2)) rfl
  · exact at_block (congrFun (index7 V t) (1 : Fin 2)) (by show 0 * 128 + _ = _; omega)

theorem ins_be (t : Fin (cf V).N) (j : Fin 128) :
    (ins V c t).be (ix2 0 j) = (V c main_v16 : Vec F S1x128 .f32) (ix2 0 j) := by
  show xin V c 8 t _ = _
  rw [xin_read]
  blk_ext
  · exact at_unit (congrFun (index8 V t) (0 : Fin 2)) rfl
  · exact at_block (congrFun (index8 V t) (1 : Fin 2)) (by show 0 * 128 + _ = _; omega)

theorem ins_kf (t : Fin (cf V).N) (q : Fin 64) (d : Fin 128) :
    (ins V c t).kf (ix3 q 0 d) = (V c main_v14 : Vec F S64x1x128 .f32) (ix3 q 0 d) := by
  show xin V c 9 t _ = _
  rw [xin_read]
  blk_ext
  · exact at_block (congrFun (index9 V t) (0 : Fin 3)) (by show 0 * 64 + _ = _; omega)
  · exact at_unit (congrFun (index9 V t) (1 : Fin 3)) rfl
  · exact at_block (congrFun (index9 V t) (2 : Fin 3)) (by show 0 * 128 + _ = _; omega)

end Cert.KernelIdeal.Hand
-- ==== Proof.Model.lean ====
/-
  What both programs compute, in terms of the arguments' entries, over the extended reals.
-/
module

public import Idealize.ShloMosaic.Lib.Pointwise

@[expose] public section

noncomputable section

namespace Cert.Hand

open Idealize.ShloMosaic

/-- `y · logistic y`. -/
def silu (y : EReal) : EReal := y * Ideal.logistic y

/-- A row through the two dense layers, and the residual added: the weights indexed by input, then output. -/
def dense (W1 W2 : Fin 128 → Fin 128 → EReal) (x : Fin 128 → EReal) (d : Fin 128) : EReal :=
  x d + silu (∑ j, silu (∑ k, x k * W1 k j) * W2 j d)

/-- The number of columns, as the f32 word that the programs hold. -/
def width : EReal := Ideal.ofBits .f32 0x43000000#32

/-- The normalisation's small constant. -/
def eps : EReal := Ideal.ofBits .f32 0x3727C5AC#32

/-- A row's mean. -/
def mean (x : Fin 128 → EReal) : EReal := Ideal.div (∑ j, x j) width

/-- A row's variance. -/
def variance (x : Fin 128 → EReal) : EReal := Ideal.div (∑ j, (x j - mean x) * (x j - mean x)) width

/-- A row normalised, scaled and shifted. -/
def lnorm (ga be x : Fin 128 → EReal) (d : Fin 128) : EReal :=
  (x d - mean x) * Ideal.rsqrt (variance x + eps) * ga d + be d

/-- The coefficient that a row of the interleaved order stands for: even rows the cosine, odd rows the sine. -/
def coRow (q : Fin 64) : Fin 64 := ⟨q.val / 2 + 32 * (q.val % 2), by omega⟩

/-- The arguments' entries. -/
structure Data where
  x : Fin 10000 → Fin 128 → EReal
  kd : Fin 10000 → Fin 32 → EReal
  sc : Fin 10000 → Fin 32 → EReal
  bc : Fin 10000 → Fin 256
  dn : Fin 32 → Fin 8 → EReal
  w1 : Fin 128 → Fin 128 → EReal
  w2 : Fin 128 → Fin 128 → EReal
  ga : Fin 128 → EReal
  be : Fin 128 → EReal
  fi : Fin 128 → Fin 8 → EReal
  u1 : Fin 128 → Fin 128 → EReal
  u2 : Fin 128 → Fin 128 → EReal

/-- The entries of the arguments. -/
def Data.of (a0 : (⟨2, ![10000, 128]⟩ : Shape).Idx → EReal) (a1 a2 : (⟨2, ![10000, 32]⟩ : Shape).Idx → EReal)
    (b : (⟨1, ![10000]⟩ : Shape).Idx → BitVec 32) (a4 : (⟨2, ![32, 8]⟩ : Shape).Idx → EReal)
    (a5 a6 : (⟨2, ![128, 128]⟩ : Shape).Idx → EReal) (a7 a8 : (⟨1, ![128]⟩ : Shape).Idx → EReal)
    (a9 : (⟨2, ![128, 8]⟩ : Shape).Idx → EReal) (a10 a11 : (⟨2, ![128, 128]⟩ : Shape).Idx → EReal) : Data where
  x n d := a0 (ix2 n d)
  kd n k := a1 (ix2 n k)
  sc n k := a2 (ix2 n k)
  bc n := ⟨(b (ix1 n)).toNat % 256, Nat.mod_lt _ (by decide)⟩
  dn k p := a4 (ix2 k p)
  w1 i j := a5 (ix2 j i)
  w2 i j := a6 (ix2 j i)
  ga d := a7 (ix1 d)
  be d := a8 (ix1 d)
  fi d p := a9 (ix2 d p)
  u1 i j := a10 (ix2 j i)
  u2 i j := a11 (ix2 j i)

namespace Data

variable (D : Data)

/-- An atom's coefficients: the 32 cosine ones, then the 32 sine ones. -/
def co (n : Fin 10000) (q : Fin 64) : EReal :=
  if h : q.val < 32 then Ideal.cos (D.kd n ⟨q.val, h⟩) * D.sc n ⟨q.val, h⟩
  else Ideal.sin (D.kd n ⟨q.val - 32, by omega⟩) * D.sc n ⟨q.val - 32, by omega⟩

/-- An atom's row after the first layers and the normalisation. -/
def xr (n : Fin 10000) (d : Fin 128) : EReal := lnorm D.ga D.be (dense D.w1 D.w2 (D.x n)) d

/-- The filter's entry. -/
def kf (k : Fin 32) (d : Fin 128) : EReal := ∑ p, D.dn k p * D.fi d p

/-- A segment's sum, for a coefficient row in the interleaved order. -/
def seg (q : Fin 64) (b : Fin 256) (d : Fin 128) : EReal := ∑ n, if D.bc n = b then D.co n (coRow q) * D.xr n d else 0

/-- What an atom reads back from its segment's filtered sums. -/
def agg (n : Fin 10000) (d : Fin 128) : EReal :=
  ∑ q : Fin 64, D.co n (coRow q) * (D.kf ⟨q.val / 2, by omega⟩ d * D.seg q (D.bc n) d)

/-- The result. -/
def out (n : Fin 10000) (d : Fin 128) : EReal := dense D.u1 D.u2 (fun k => D.x n k + D.agg n k) d

end Data

end Cert.Hand
-- ==== Proof.KernelIdeal.Pay.lean ====
/-
  The body's products at an index, over the extended reals: the coefficients, the rows selected by a one-hot table, and
  the products of a chunk's coefficients with the 0/1 table of "atom n lies in row o + b".
-/
module

public import proofs.«01_k».proof.Proof.Gen.KernelIdeal.Skeleton
public import proofs.«01_k».proof.Proof.Model
public import Idealize.ShloMosaic.Lib.Pointwise
public import Idealize.ShloMosaic.Lib.Tactic.WordOmega
public import Idealize.ShloMosaic.Lib.Pipeline.Value

@[expose] public section

set_option maxRecDepth 16384

noncomputable section

namespace Cert.KernelIdeal.Hand

open Cert.KernelIdeal Cert.KernelIdeal.Gen Cert.Hand
open Idealize.ShloMosaic

/-- A product with a 0/1 factor on the left. -/
theorem ite_one_mul (p : Prop) [Decidable p] (x : EReal) : (if p then (1 : EReal) else 0) * x = if p then x else 0 := by
  split <;> simp

/-- A product with a 0/1 factor on the right. -/
theorem mul_ite_one (p : Prop) [Decidable p] (x : EReal) : x * (if p then (1 : EReal) else 0) = if p then x else 0 := by
  split <;> simp

/-- A coefficient: the cosine half in the first 32 rows, the sine half in the last 32. -/
def coefAt (kd sc : Vec Ideal S1x32x400 .f32) (q : Fin 64) (n : Fin 400) : EReal :=
  if h : q.val < 32 then Ideal.cos (kd (ix3 0 ⟨q.val, h⟩ n)) * sc (ix3 0 ⟨q.val, h⟩ n)
  else Ideal.sin (kd (ix3 0 ⟨q.val - 32, by omega⟩ n)) * sc (ix3 0 ⟨q.val - 32, by omega⟩ n)

theorem pay10_apply (sc kd : Vec Ideal S1x32x400 .f32) (q : Fin 64) (n : Fin 400) :
    k0_pay10 sc kd (ix2 q n) = coefAt kd sc q n := by
  pointwise [k0_pay10, coefAt]

theorem pay11_apply (sc kd : Vec Ideal S1x32x400 .f32) (q : Fin 64) (n : Fin 400) :
    k0_pay11 sc kd (ix2 n q) = coefAt kd sc q n := by
  rw [← pay10_apply]; pointwise [k0_pay11]

/-- The product with a table that selects row `f r`. -/
theorem pay12_apply (sc kd : Vec Ideal S1x32x400 .f32) (e : Vec Ideal S2048x64 .bf16) (f : Fin 2048 → Fin 64)
    (he : ∀ r j, e (ix2 r j) = if f r = j then 1 else 0) (r : Fin 2048) (n : Fin 400) :
    k0_pay12 sc kd e (ix2 r n) = coefAt kd sc (f r) n := by
  have h : k0_pay12 sc kd e (ix2 r n) = ∑ j : Fin 64, e (ix2 r j) * k0_pay10 sc kd (ix2 j n) := by
    pointwise [k0_pay12]
  rw [h]; simp only [he, ite_one_mul, pay10_apply]
  simp

theorem pay16_apply (C : Vec Ideal S400x64 .bf16) (e : Vec Ideal S64x2048 .bf16) (f : Fin 2048 → Fin 64)
    (he : ∀ j r, e (ix2 j r) = if f r = j then 1 else 0) (a : Fin 400) (r : Fin 2048) :
    k0_pay16 C e (ix2 a r) = C (ix2 a (f r)) := by
  have h : k0_pay16 C e (ix2 a r) = ∑ j : Fin 64, C (ix2 a j) * e (ix2 j r) := by
    pointwise [k0_pay16]
  rw [h]; simp only [he, mul_ite_one]
  simp

/-! ### The scatter's product -/

/-- The 0/1 rows: row `b` has a one where the atom's id is `o + b`. -/
def hotRows (o : BitVec 32) (ids : IVec S1x400 32) : FVec Ideal S32x400 .bf16 :=
  truncf .bf16 (sitofp .f32 (extui 32 (cmpi .eq (addi (iota .tc S32x400 32 [0] iota_S32x400_d0_w32) (broadcast S32x400 o))
    (broadcastTo S32x400 ids broadcasts_S1x400_S32x400)) natLt_1_32)) bitsLt_bf16_f32

theorem hot_word (p q : BitVec 32) :
    (((BitVec.setWidth 32 (IntOp.cmpi CmpIPredicate.eq p q)).toInt : ℝ) : EReal) = if p = q then (1 : EReal) else 0 := by
  by_cases h : p = q
  · subst h; simp [IntOp.cmpi]
  · simp [IntOp.cmpi, beq_eq_false_iff_ne.2 h, h]

theorem hotRows_apply (o : BitVec 32) (ids : IVec S1x400 32) (b : Fin 32) (n : Fin 400) :
    hotRows o ids (ix2 b n) = if BitVec.ofNat 32 b.val + o = ids (ix2 0 n) then 1 else 0 := by
  pointwise [hotRows]
  exact hot_word _ _

theorem cat64 : Shape.Concatenates (List.replicate 64 S32x400) S2048x400 0 := by decide +kernel

/-- The chunk's contribution to 32 rows from `o`, for the 64 coefficients. -/
def scatProd (o : BitVec 32) (ids : IVec S1x400 32) (v70 : FVec Ideal S2048x400 .bf16) (v48 : FVec Ideal S400x128 .bf16) :
    FVec Ideal S2048x128 .f32 :=
  matmul dot_S2048x400_S400x128_S2048x128_1_0_0_1_n_n none
    (mulf v70 (concatenate S2048x400 0 (List.replicate 64 (⟨S32x400, hotRows o ids⟩ : (s : Shape) × (s.Idx → EReal)))
      (by rw [List.map_replicate]; exact cat64)))
    v48 (constant S2048x128 .f32 0x00000000#32)

theorem scatProd_apply (o : BitVec 32) (ids : IVec S1x400 32) (v70 : FVec Ideal S2048x400 .bf16) (v48 : FVec Ideal S400x128 .bf16)
    (r : Fin 2048) (d : Fin 128) :
    scatProd o ids v70 v48 (ix2 r d) = ∑ n : Fin 400,
      (v70 (ix2 r n) * if BitVec.ofNat 32 (r.val % 32) + o = ids (ix2 0 n) then 1 else 0) * v48 (ix2 n d) := by
  pointwise [scatProd]
  refine Finset.sum_congr rfl fun n _ => ?_
  congr 2
  rw [concatenate_replicate_apply (t := S2048x400) 0 64 (hotRows o ids) _ rfl (ix2 r n) (ix2 ⟨r.val % 32, Nat.mod_lt _ (by decide)⟩ n) rfl (by
    intro b hb; fin_cases b <;> first | rfl | exact absurd rfl hb)]
  exact hotRows_apply o ids _ n

theorem pay14_eq (v48 : FVec Ideal S400x128 .bf16) (sc kd : Vec Ideal S1x32x400 .f32) (e : Vec Ideal S2048x64 .bf16)
    (v71 : Vec Ideal S1x1x400 .i32) (o : Elt Ideal .i32) :
    k0_pay14 v48 sc kd e v71 o = scatProd o (k0_pay13 v71) (k0_pay12 sc kd e) v48 := rfl

theorem pay3_eq (v48 : FVec Ideal S400x128 .bf16) (v70 : FVec Ideal S2048x400 .bf16) (v72 : IVec S1x400 32)
    (v74 v76 : Elt Ideal .i32) (p : Fin (k0_t1_loop v74 v76).trips) (X : Vec Ideal S64x32x128 .f32) :
    k0_pay3 v48 v70 v72 v74 v76 p X
      = k0_pay2 (scatProd (Scalar.addi v74 (Scalar.muli (Scf.iv 1#32 1#32 p) 32#32)) v72 v70 v48) X := rfl

theorem pay2_apply (P : FVec Ideal S2048x128 .f32) (X : Vec Ideal S64x32x128 .f32) (q : Fin 64) (b : Fin 32) (d : Fin 128) :
    k0_pay2 P X (ix3 q b d) = X (ix3 q b d) + P (ix2 ⟨q.val * 32 + b.val, by omega⟩ d) := by
  pointwise [k0_pay2]

/-! ### The gather's product -/

/-- The 0/1 columns: column `r` has a one where the atom's id is `o + r % 32`. -/
def hotCols (o : BitVec 32) (ids : IVec S400x1 32) (io : IVec S400x128 32) : FVec Ideal S400x128 .bf16 :=
  truncf .bf16 (sitofp .f32 (extui 32 (cmpi .eq (addi (andi io (broadcast S400x128 31#32)) (broadcast S400x128 o))
    (broadcastTo S400x128 ids broadcasts_S400x1_S400x128)) natLt_1_32)) bitsLt_bf16_f32

theorem and31 : ∀ r : Fin 128, BitVec.ofNat 32 r.val &&& 31#32 = BitVec.ofNat 32 (r.val % 32) := by decide +kernel

theorem hotCols_apply (o : BitVec 32) (ids : IVec S400x1 32) (a : Fin 400) (r : Fin 128) :
    hotCols o ids (iota .tc S400x128 32 [1] iota_S400x128_d1_w32) (ix2 a r)
      = if BitVec.ofNat 32 (r.val % 32) + o = ids (ix2 a 0) then 1 else 0 := by
  rw [← and31]
  pointwise [hotCols]
  exact hot_word _ _

theorem cat16 : Shape.Concatenates (List.replicate 16 S400x128) S400x2048 1 := by decide +kernel

/-- The gather from 32 rows: the kept coefficients at the atom's row of the window. -/
def gathProd (o : BitVec 32) (ids : IVec S400x1 32) (io : IVec S400x128 32) (v24 : FVec Ideal S400x2048 .bf16)
    (W : Vec Ideal S64x32x128 .bf16) : FVec Ideal S400x128 .f32 :=
  matmul dot_S400x2048_S2048x128_S400x128_1_0_0_1_n_n none
    (mulf v24 (concatenate S400x2048 1 (List.replicate 16 (⟨S400x128, hotCols o ids io⟩ : (s : Shape) × (s.Idx → EReal)))
      (by rw [List.map_replicate]; exact cat16)))
    (shapeCast S2048x128 W shapeCasts_S64x32x128_S2048x128 : FVec Ideal S2048x128 .bf16) (constant S400x128 .f32 0x00000000#32)

/-- A sum over 2048 columns, by coefficient and by row of the window. -/
theorem sum_rows (f : Fin 2048 → EReal) :
    ∑ r, f r = ∑ q : Fin 64, ∑ b : Fin 32, f ⟨q.val * 32 + b.val, by omega⟩ := by
  rw [← Fintype.sum_prod_type' (f := fun (q : Fin 64) (b : Fin 32) => f ⟨q.val * 32 + b.val, by omega⟩)]
  refine (Fintype.sum_equiv (finProdFinEquiv (m := 64) (n := 32)) _ _ fun p => ?_).symm
  congr 1; ext; simp [finProdFinEquiv]; omega

theorem gathProd_apply (o : BitVec 32) (ids : IVec S400x1 32) (v24 : FVec Ideal S400x2048 .bf16)
    (W : Vec Ideal S64x32x128 .bf16) (a : Fin 400) (d : Fin 128) :
    gathProd o ids (iota .tc S400x128 32 [1] iota_S400x128_d1_w32) v24 W (ix2 a d) = ∑ q : Fin 64, ∑ b : Fin 32,
      (v24 (ix2 a ⟨q.val * 32 + b.val, by omega⟩) * if BitVec.ofNat 32 b.val + o = ids (ix2 a 0) then 1 else 0) * W (ix3 q b d) := by
  have h : gathProd o ids (iota .tc S400x128 32 [1] iota_S400x128_d1_w32) v24 W (ix2 a d) = ∑ r : Fin 2048,
      (v24 (ix2 a r) * if BitVec.ofNat 32 (r.val % 32) + o = ids (ix2 a 0) then 1 else 0)
        * W (ix3 ⟨r.val / 32, by omega⟩ ⟨r.val % 32, by omega⟩ d) := by
    pointwise [gathProd]
    refine Finset.sum_congr rfl fun r _ => ?_
    congr 1
    · congr 1
      rw [concatenate_replicate_apply (t := S400x2048) 1 16 (hotCols o ids _) _ rfl (ix2 a r) (ix2 a ⟨r.val % 128, Nat.mod_lt _ (by decide)⟩) rfl (by
        intro b hb; fin_cases b <;> first | rfl | exact absurd rfl hb), hotCols_apply]
      congr 4
      simp only; omega
  rw [h, sum_rows]
  refine Finset.sum_congr rfl fun q _ => Finset.sum_congr rfl fun b _ => ?_
  have e1 : (q.val * 32 + b.val) % 32 = b.val := by omega
  have e2 : (q.val * 32 + b.val) / 32 = q.val := by omega
  simp only [e1, e2]

theorem pay17_eq (C : Vec Ideal S400x64 .bf16) (v15 : Vec Ideal S1x400x1 .i32) (o : Elt Ideal .i32) (e : Vec Ideal S64x2048 .bf16)
    (W : Vec Ideal S64x32x128 .bf16) :
    k0_pay17 C v15 o e W
      = gathProd o (k0_pay15 v15) (iota .tc S400x128 32 [1] iota_S400x128_d1_w32) (k0_pay16 C e) W := rfl

theorem pay6_eq (v16 : IVec S400x1 32) (v18 v20 : Elt Ideal .i32) (v24 : FVec Ideal S400x2048 .bf16) (io : IVec S400x128 32)
    (p : Fin (k0_t3_loop v18 v20).trips) (acc : FVec Ideal S400x128 .f32) (W : Vec Ideal S64x32x128 .bf16) :
    k0_pay6 v16 v18 v20 v24 io p acc W
      = addf acc (gathProd (Scalar.addi v18 (Scalar.muli (Scf.iv 1#32 1#32 p) 32#32)) v16 io v24 W) := rfl

/-! ### The filtered sums, and the ids -/

theorem pay5_apply (kf : Vec Ideal S64x1x128 .f32) (A : Vec Ideal S64x288x128 .f32) (q : Fin 64) (b : Fin 288) (d : Fin 128) :
    k0_pay5 kf A (ix3 q b d) = kf (ix3 q 0 d) * A (ix3 q b d) := by
  pointwise [k0_pay5]

theorem pay1_apply (q : Fin 64) (b : Fin 288) (d : Fin 128) : k0_pay1 (F := Ideal) (ix3 q b d) = 0 := by
  pointwise [k0_pay1]

theorem pay13_apply (ids : Vec Ideal S1x1x400 .i32) (n : Fin 400) : k0_pay13 ids (ix2 0 n) = ids (ix3 0 0 n) := by
  pointwise [k0_pay13]

theorem pay15_apply (ids : Vec Ideal S1x400x1 .i32) (n : Fin 400) : k0_pay15 ids (ix2 n 0) = ids (ix3 0 n 0) := by
  pointwise [k0_pay15]

end Cert.KernelIdeal.Hand
-- ==== Proof.KernelIdeal.HostVals.lean ====
/-
  What the host operations leave in the arrays that the kernel's windows read, at an index, over the extended reals.
-/
module

public import proofs.«01_k».proof.Proof.KernelIdeal.Host
public import proofs.«01_k».proof.Proof.KernelIdeal.Pay
public import Idealize.ShloMosaic.Lib.Pointwise

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic

/-- Floor division of words, as the host computes it. -/
def fdiv (x k : BitVec 32) : BitVec 32 :=
  Scalar.select
    (IntOp.andi
      (IntOp.cmpi .ne (if x = 0 then 0 else if BitVec.msb x = true then -1 else 1 : BitVec 32)
        (if k = 0 then 0 else if BitVec.msb k = true then -1 else 1))
      (IntOp.cmpi .ne (IntOp.remsi .host x k) 0#32))
    (IntOp.subi (IntOp.divsi .host x k) 1#32)
    (IntOp.divsi .host x k)

/-- The remainder of words with the divisor's sign, as the host computes it. -/
def frem (x k : BitVec 32) : BitVec 32 :=
  let k' : BitVec 32 := Scalar.select (IntOp.cmpi .eq k 0#32) 1#32 k
  Scalar.select
    (IntOp.andi (IntOp.cmpi .ne (IntOp.cmpi .slt (IntOp.remsi .host x k') 0#32) (IntOp.cmpi .slt k' 0#32))
      (IntOp.cmpi .ne (IntOp.remsi .host x k') 0#32))
    (IntOp.addi (IntOp.remsi .host x k') k')
    (IntOp.remsi .host x k')

/-- The coefficient row that a row of the interleaved order stands for, as the host computes it. -/
def pickW (q : BitVec 32) : BitVec 32 := IntOp.addi (fdiv q 2#32) (IntOp.muli (frem q 2#32) 32#32)

/-- The row of the interleaved order at a column of the second table, as the host computes it. -/
def colW (r : BitVec 32) : BitVec 32 := IntOp.addi (IntOp.muli (fdiv r 128#32) 4#32) (fdiv (frem r 128#32) 32#32)

theorem row_eq : ∀ r : Fin 2048, pickW (fdiv (BitVec.ofNat 32 r.val) 32#32) = BitVec.ofNat 32 (r.val / 32 / 2 + 32 * (r.val / 32 % 2)) := by
  decide +kernel

theorem col_eq : ∀ r : Fin 2048, pickW (colW (BitVec.ofNat 32 r.val)) = BitVec.ofNat 32 (r.val / 32 / 2 + 32 * (r.val / 32 % 2)) := by
  decide +kernel

variable (m : (ℓ : Loc nD τ sig) → Buf (Elt Ideal) ℓ) (c : Dev nD)

/-- The arguments' entries. -/
def dataOf (m : (ℓ : Loc nD τ sig) → Buf (Elt Ideal) ℓ) (c : Dev nD) : Data :=
  Data.of (m ((c.tc : Thread nD τ).loc main_arg0)) (m ((c.tc : Thread nD τ).loc main_arg1)) (m ((c.tc : Thread nD τ).loc main_arg2))
    (batchOf m c) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11))

theorem entry_v0 (t : Fin 25) (n : Fin 400) :
    (entryV m c main_v0 : IVec S25x1x400 32) (ix3 t 0 n) = batchOf m c (ix1 ⟨t.val * 400 + n.val, by omega⟩) := by
  show StableHlo.after (hostOps (F := Ideal)) (fun b => m (c, b)) (Proc.devRef .tc main_v0) _ = _
  after_reads_simp
  pointwise

theorem entry_v1 (t : Fin 25) (n : Fin 400) :
    (entryV m c main_v1 : IVec S25x400x1 32) (ix3 t n 0) = batchOf m c (ix1 ⟨t.val * 400 + n.val, by omega⟩) := by
  show StableHlo.after (hostOps (F := Ideal)) (fun b => m (c, b)) (Proc.devRef .tc main_v1) _ = _
  after_reads_simp
  pointwise

theorem entry_v52 (t : Fin 25) (q : Fin 32) (n : Fin 400) :
    (entryV m c main_v52 : S25x32x400.Idx → EReal) (ix3 t q n) = (dataOf m c).kd ⟨t.val * 400 + n.val, by omega⟩ q := by
  show StableHlo.after (hostOps (F := Ideal)) (fun b => m (c, b)) (Proc.devRef .tc main_v52) _ = _
  after_reads_simp
  pointwise
  rfl

theorem entry_v55 (t : Fin 25) (q : Fin 32) (n : Fin 400) :
    (entryV m c main_v55 : S25x32x400.Idx → EReal) (ix3 t q n) = (dataOf m c).sc ⟨t.val * 400 + n.val, by omega⟩ q := by
  show StableHlo.after (hostOps (F := Ideal)) (fun b => m (c, b)) (Proc.devRef .tc main_v55) _ = _
  after_reads_simp
  pointwise
  rfl

theorem entry_v56 (i j : Fin 128) :
    (entryV m c main_v56 : S128x128.Idx → EReal) (ix2 i j) = (dataOf m c).w1 i j := by
  show StableHlo.after (hostOps (F := Ideal)) (fun b => m (c, b)) (Proc.devRef .tc main_v56) _ = _
  after_reads_simp
  pointwise
  rfl

theorem entry_v57 (i j : Fin 128) :
    (entryV m c main_v57 : S128x128.Idx → EReal) (ix2 i j) = (dataOf m c).w2 i j := by
  show StableHlo.after (hostOps (F := Ideal)) (fun b => m (c, b)) (Proc.devRef .tc main_v57) _ = _
  after_reads_simp
  pointwise
  rfl

theorem entry_v58 (i j : Fin 128) :
    (entryV m c main_v58 : S128x128.Idx → EReal) (ix2 i j) = (dataOf m c).u1 i j := by
  show StableHlo.after (hostOps (F := Ideal)) (fun b => m (c, b)) (Proc.devRef .tc main_v58) _ = _
  after_reads_simp
  pointwise
  rfl

theorem entry_v59 (i j : Fin 128) :
    (entryV m c main_v59 : S128x128.Idx → EReal) (ix2 i j) = (dataOf m c).u2 i j := by
  show StableHlo.after (hostOps (F := Ideal)) (fun b => m (c, b)) (Proc.devRef .tc main_v59) _ = _
  after_reads_simp
  pointwise
  rfl

theorem entry_v15 (j : Fin 128) :
    (entryV m c main_v15 : S1x128.Idx → EReal) (ix2 0 j) = (dataOf m c).ga j := by
  show StableHlo.after (hostOps (F := Ideal)) (fun b => m (c, b)) (Proc.devRef .tc main_v15) _ = _
  after_reads_simp
  pointwise
  rfl

theorem entry_v16 (j : Fin 128) :
    (entryV m c main_v16 : S1x128.Idx → EReal) (ix2 0 j) = (dataOf m c).be j := by
  show StableHlo.after (hostOps (F := Ideal)) (fun b => m (c, b)) (Proc.devRef .tc main_v16) _ = _
  after_reads_simp
  pointwise
  rfl

theorem entry_v14 (q : Fin 64) (d : Fin 128) :
    (entryV m c main_v14 : S64x1x128.Idx → EReal) (ix3 q 0 d) = (dataOf m c).kf ⟨q.val / 2, by omega⟩ d := by
  show StableHlo.after (hostOps (F := Ideal)) (fun b => m (c, b)) (Proc.devRef .tc main_v14) _ = _
  after_reads_simp
  pointwise
  rfl

theorem word_sel (r : Fin 2048) (j : Fin 64) :
    (BitVec.ofNat 32 (r.val / 32 / 2 + 32 * (r.val / 32 % 2)) = BitVec.ofNat 32 j.val) ↔ coRow ⟨r.val / 32, by omega⟩ = j := by
  rw [← BitVec.toNat_inj, BitVec.toNat_ofNat, BitVec.toNat_ofNat, Fin.ext_iff]
  show _ ↔ r.val / 32 / 2 + 32 * (r.val / 32 % 2) = j.val
  omega

theorem hot_eq (x y : BitVec 32) : FloatOps.uitofp (F := Ideal) .bf16 (IntOp.cmpi .eq x y) = if x = y then (1 : EReal) else 0 := by
  show (((IntOp.cmpi .eq x y : BitVec 1).toNat : ℝ) : EReal) = _
  by_cases h : x = y
  · subst h; simp [IntOp.cmpi]
  · simp [IntOp.cmpi, beq_eq_false_iff_ne.2 h, h]

theorem entry_v30 (r : Fin 2048) (j : Fin 64) :
    (entryV m c main_v30 : S2048x64.Idx → EReal) (ix2 r j) = if coRow ⟨r.val / 32, by omega⟩ = j then (1 : EReal) else 0 := by
  simp only [← word_sel r j, ← row_eq r]
  rw [← hot_eq]
  show StableHlo.after (hostOps (F := Ideal)) (fun b => m (c, b)) (Proc.devRef .tc main_v30) _ = _
  after_reads_simp
  simp only [StableHlo.TRef.ofBuf, StableHlo.TRef.toBuf, cast_eq, id]
  pointwise
  rfl

theorem entry_v49 (j : Fin 64) (r : Fin 2048) :
    (entryV m c main_v49 : S64x2048.Idx → EReal) (ix2 j r) = if coRow ⟨r.val / 32, by omega⟩ = j then (1 : EReal) else 0 := by
  simp only [← word_sel r j, ← col_eq r, eq_comm (b := BitVec.ofNat 32 j.val)]
  rw [← hot_eq]
  show StableHlo.after (hostOps (F := Ideal)) (fun b => m (c, b)) (Proc.devRef .tc main_v49) _ = _
  after_reads_simp
  simp only [StableHlo.TRef.ofBuf, StableHlo.TRef.toBuf, cast_eq, id]
  pointwise
  rfl

end Cert.KernelIdeal.Hand
-- ==== Proof.KernelIdeal.Dense.lean ====
/-
  The dense layers of the kernel's body, row by row, over the extended reals: the two-layer block with its residual, and
  the layer normalisation.
-/
module

public import proofs.«01_k».proof.Proof.Gen.KernelIdeal.Skeleton
public import proofs.«01_k».proof.Proof.Model
public import Idealize.ShloMosaic.Lib.Pointwise

@[expose] public section

set_option maxRecDepth 16384

noncomputable section

namespace Cert.KernelIdeal.Hand

open Cert.Hand
open Cert.KernelIdeal Cert.KernelIdeal.Gen
open Idealize.ShloMosaic

theorem pay8_apply (acc : FVec Ideal S400x128 .f32) (x : Vec Ideal S400x128 .f32) (w1 w2 : Vec Ideal S128x128 .f32)
    (a : Fin 400) (d : Fin 128) :
    k0_pay8 acc x w1 w2 (ix2 a d)
      = dense (fun k j => w1 (ix2 k j)) (fun k j => w2 (ix2 k j)) (fun k => x (ix2 a k) + acc (ix2 a k)) d := by
  pointwise [k0_pay8, dense, silu]

theorem pay9_apply (x : Vec Ideal S400x128 .f32) (w1 w2 : Vec Ideal S128x128 .f32) (ga be : Vec Ideal S1x128 .f32)
    (a : Fin 400) (d : Fin 128) :
    k0_pay9 x w1 w2 ga be (ix2 a d)
      = lnorm (fun k => ga (ix2 0 k)) (fun k => be (ix2 0 k))
          (dense (fun k j => w1 (ix2 k j)) (fun k j => w2 (ix2 k j)) (fun k => x (ix2 a k))) d := by
  pointwise [k0_pay9, lnorm, dense, silu, mean, variance, width, eps]

end Cert.KernelIdeal.Hand
-- ==== Proof.KernelIdeal.Inputs.lean ====
/-
  The blocks that the kernel reads at a point, by the arguments' entries.
-/
module

public import proofs.«01_k».proof.Proof.KernelIdeal.Blocks
public import proofs.«01_k».proof.Proof.KernelIdeal.HostVals
public import proofs.«01_k».proof.Proof.KernelIdeal.Frame
public import proofs.«01_k».proof.Proof.KernelIdeal.Dense

@[expose] public section

set_option maxRecDepth 16384

noncomputable section

namespace Cert.KernelIdeal.Hand

open Cert.KernelIdeal Cert.KernelIdeal.Gen Cert.Hand
open Idealize.ShloMosaic Idealize.ShloMosaic.TcCoe

variable (m : (ℓ : Loc nD τ sig) → Buf (Elt Ideal) ℓ) (c : Dev nD) (t : Fin (cf (entryV m)).N)

/-- The blocks of a point. -/
abbrev blk : Ins Ideal := ins (entryV m) c t

theorem blk_coef (q : Fin 64) (n : Fin 400) : coefAt (blk m c t).kd (blk m c t).sc q n = (dataOf m c).co (atom t.val n) q := by
  unfold coefAt Data.co
  by_cases h : q.val < 32
  · rw [dif_pos h, dif_pos h, ins_kd, ins_sc, entry_v52, entry_v55]; rfl
  · rw [dif_neg h, dif_neg h, ins_kd, ins_sc, entry_v52, entry_v55]; rfl

theorem blk_xr (n : Fin 400) (d : Fin 128) :
    k0_pay9 (blk m c t).x (blk m c t).w1 (blk m c t).w2 (blk m c t).ga (blk m c t).be (ix2 n d) = (dataOf m c).xr (atom t.val n) d := by
  rw [pay9_apply]
  simp only [ins_x, ins_w1, ins_w2, ins_ga, ins_be, entry_arg0, entry_v56, entry_v57, entry_v15, entry_v16]
  rfl

variable (hb : Sorted (batchOf m c))

include hb in
theorem id_word (n : Fin 10000) : batchOf m c (ix1 n) = BitVec.ofNat 32 ((dataOf m c).bc n).val := by
  show _ = BitVec.ofNat 32 ((batchOf m c (ix1 n)).toNat % 256)
  rw [Nat.mod_eq_of_lt (hb.lt n), BitVec.ofNat_toNat, BitVec.setWidth_eq]

include hb in
theorem blk_br (n : Fin 400) : (blk m c t).br (ix3 0 0 n) = BitVec.ofNat 32 ((dataOf m c).bc (atom t.val n)).val := by
  rw [ins_br, entry_v0, ← id_word m c hb]; rfl

include hb in
theorem blk_bc (n : Fin 400) : (blk m c t).bc (ix3 0 n 0) = BitVec.ofNat 32 ((dataOf m c).bc (atom t.val n)).val := by
  rw [ins_bc, entry_v1, ← id_word m c hb]; rfl

/-- The ids of a chunk lie between its first window's first row and its last id. -/
theorem blk_range (t : ℕ) (j : Fin 25) (hj : j.val = t % 25) (n : Fin 400) :
    16 * (baseOf _ hb j).val ≤ ((dataOf m c).bc (atom t n)).val ∧ ((dataOf m c).bc (atom t n)).val ≤ (lastOf _ hb j).val := by
  have h1 := hb.mono (n := ⟨400 * j.val, by omega⟩) (n' := atom t n) (by show 400 * j.val ≤ t % 25 * 400 + n.val; omega)
  have h2 := hb.mono (n := atom t n) (n' := ⟨399 + 400 * j.val, by omega⟩) (by show t % 25 * 400 + n.val ≤ 399 + 400 * j.val; omega)
  have e : ((dataOf m c).bc (atom t n)).val = (batchOf m c (ix1 (atom t n))).toNat := Nat.mod_eq_of_lt (hb.lt _)
  have e1 : (baseOf _ hb j).val = (batchOf m c (ix1 ⟨400 * j.val, by omega⟩)).toNat / 16 := rfl
  have e2 : (lastOf _ hb j).val = (batchOf m c (ix1 ⟨399 + 400 * j.val, by omega⟩)).toNat := rfl
  rw [e, e1, e2]
  omega

theorem blk_et (r : Fin 2048) (j : Fin 64) : (blk m c t).et (ix2 r j) = if coRow ⟨r.val / 32, by omega⟩ = j then (1 : EReal) else 0 := by
  rw [ins_et]; exact entry_v30 m c r j

theorem blk_eb (j : Fin 64) (r : Fin 2048) : (blk m c t).eb (ix2 j r) = if coRow ⟨r.val / 32, by omega⟩ = j then (1 : EReal) else 0 := by
  rw [ins_eb]; exact entry_v49 m c j r

theorem blk_kf (q : Fin 64) (d : Fin 128) : (blk m c t).kf (ix3 q 0 d) = (dataOf m c).kf ⟨q.val / 2, by omega⟩ d := by
  rw [ins_kf]; exact entry_v14 m c q d

theorem blk_out (acc : FVec Ideal S400x128 .f32) (n : Fin 400) (d : Fin 128) :
    k0_pay8 acc (blk m c t).x (blk m c t).u1 (blk m c t).u2 (ix2 n d)
      = dense (dataOf m c).u1 (dataOf m c).u2 (fun k => (dataOf m c).x (atom t.val n) k + acc (ix2 n k)) d := by
  rw [pay8_apply]
  simp only [ins_x, ins_u1, ins_u2, entry_arg0, entry_v58, entry_v59]
  rfl

end Cert.KernelIdeal.Hand
-- ==== Proof.KernelIdeal.Windows.lean ====
/-
  Windows of 32 rows of the segment buffers at an index, and the scatter's and the gather's loops over them: over a
  chunk whose ids lie between the first window's first row and the chunk's last id, the scatter adds to each row the
  sum over the atoms with that id, and the gather reads, of each atom, its own row.
-/
module

public import proofs.«01_k».proof.Proof.KernelIdeal.Body
public import proofs.«01_k».proof.Proof.KernelIdeal.Words
public import proofs.«01_k».proof.Proof.KernelIdeal.Pay

@[expose] public section

set_option maxRecDepth 16384

noncomputable section

namespace Cert.KernelIdeal.Hand

open Cert.KernelIdeal Cert.KernelIdeal.Gen Cert.Hand
open Idealize.ShloMosaic

variable {α : Type}

/-- A put of 32 rows from row `o` on, at an index. -/
theorem put_rows (X : S64x288x128.Idx → α) (off : Fin 3 → ℕ) (o : ℕ) (ho : off = ![0, o, 0])
    (w : S64x32x128.Idx → α) (q : Fin 64) (b : Fin 288) (d : Fin 128) :
    VecWindow.put X off S64x32x128.size w (ix3 q b d)
      = if h : o ≤ b.val ∧ b.val < o + 32 then w (ix3 q ⟨b.val - o, by omega⟩ d) else X (ix3 q b d) := by
  subst ho
  unfold VecWindow.put
  by_cases h : o ≤ b.val ∧ b.val < o + 32
  · have hall : ∀ a : Fin 3, (![0, o, 0] : Fin 3 → ℕ) a ≤ ((ix3 q b d : S64x288x128.Idx) a).val
        ∧ ((ix3 q b d : S64x288x128.Idx) a).val < (![0, o, 0] : Fin 3 → ℕ) a + S64x32x128.size a := by
      intro a
      match a with
      | 0 => exact ⟨Nat.zero_le _, by show q.val < 0 + 64; omega⟩
      | 1 => exact h
      | 2 => exact ⟨Nat.zero_le _, by show d.val < 0 + 128; omega⟩
    rw [dif_pos h]
    refine (dif_pos hall).trans (congrArg w (funext fun a => Fin.ext ?_))
    match a with
    | 0 => exact Nat.sub_zero _
    | 1 => rfl
    | 2 => exact Nat.sub_zero _
  · rw [dif_neg h]
    exact dif_neg fun hall => h (hall 1)

/-- A window of 32 rows from row `o` on, at an index. -/
theorem window_rows (X : S64x288x128.Idx → α) (off : Fin 3 → ℕ) (o : ℕ) (ho : off = ![0, o, 0])
    (inb : ∀ a, off a + S64x32x128.size a ≤ S64x288x128.size a) (q : Fin 64) (b : Fin 32) (d : Fin 128) (h : o + b.val < 288) :
    VecWindow.window X off S64x32x128.size inb (ix3 q b d) = X (ix3 q ⟨o + b.val, h⟩ d) := by
  subst ho
  unfold VecWindow.window
  refine congrArg X (funext fun a => Fin.ext ?_)
  match a with
  | 0 => show 0 + 1 * q.val = q.val; omega
  | 1 => show o + 1 * b.val = o + b.val; omega
  | 2 => show 0 + 1 * d.val = d.val; omega

/-! ### The scatter -/

/-- What a chunk adds to row `b` of coefficient row `q`: the sum over its atoms with id `b`. -/
def contrib (co : Fin 64 → Fin 400 → EReal) (xr : Fin 400 → Fin 128 → EReal) (bc : Fin 400 → ℕ) (q : Fin 64) (b : ℕ) (d : Fin 128) : EReal :=
  ∑ n, if bc n = b then co (coRow q) n * xr n d else 0

theorem contrib_eq_zero (co : Fin 64 → Fin 400 → EReal) (xr : Fin 400 → Fin 128 → EReal) (bc : Fin 400 → ℕ) (q : Fin 64) (b : ℕ) (d : Fin 128)
    (h : ∀ n, bc n ≠ b) : contrib co xr bc q b d = 0 :=
  Finset.sum_eq_zero fun n _ => if_neg (h n)

theorem word_iff (b : Fin 32) (o n : ℕ) (W : BitVec 32) (hW : W.toNat = o) (ho : o + 32 ≤ 288) (hn : n < 256) :
    (BitVec.ofNat 32 b.val + W = BitVec.ofNat 32 n) ↔ n = o + b.val := by
  have := b.isLt
  rw [← BitVec.toNat_inj, BitVec.toNat_add, BitVec.toNat_ofNat, BitVec.toNat_ofNat, hW]
  omega

/-- The product for the window from row `o` on, at coefficient row `q` and row `b` of the window. -/
theorem scatProd_contrib (W : BitVec 32) (o : ℕ) (hW : W.toNat = o) (ho : o + 32 ≤ 288) (ids : IVec S1x400 32)
    (v70 : FVec Ideal S2048x400 .bf16) (v48 : FVec Ideal S400x128 .bf16) (co : Fin 64 → Fin 400 → EReal) (bc : Fin 400 → ℕ)
    (hid : ∀ n, ids (ix2 0 n) = BitVec.ofNat 32 (bc n)) (hlt : ∀ n, bc n < 256)
    (h70 : ∀ (q : Fin 64) (b : Fin 32) n, v70 (ix2 ⟨q.val * 32 + b.val, by omega⟩ n) = co (coRow q) n)
    (q : Fin 64) (b : Fin 32) (d : Fin 128) :
    scatProd W ids v70 v48 (ix2 ⟨q.val * 32 + b.val, by omega⟩ d) = contrib co (fun n d => v48 (ix2 n d)) bc q (o + b.val) d := by
  rw [scatProd_apply]
  refine Finset.sum_congr rfl fun n _ => ?_
  have e1 : (q.val * 32 + b.val) % 32 = b.val := by omega
  rw [h70, mul_ite_one, hid]
  simp only [e1, word_iff b o _ W hW ho (hlt n)]
  split
  · rfl
  · exact zero_mul _

section Scatter

variable (i : grid0.Coords) (h2 : k0_cond2 i = 1#1) (v48 : FVec Ideal S400x128 .bf16) (v70 : FVec Ideal S2048x400 .bf16)
  (v72 : IVec S1x400 32) (a : Fin 16) (l : Fin 256) (hal : 16 * a.val ≤ l.val)
  (co : Fin 64 → Fin 400 → EReal) (bc : Fin 400 → ℕ)
  (hid : ∀ n, v72 (ix2 0 n) = BitVec.ofNat 32 (bc n)) (hlt : ∀ n, bc n < 256)
  (h70 : ∀ (q : Fin 64) (b : Fin 32) n, v70 (ix2 ⟨q.val * 32 + b.val, by omega⟩ n) = co (coRow q) n)
include hal hid hlt h70

/-- The loop's later windows, up to trip `n`. -/
theorem scatterLoop_apply (hw : k0_chk2 i (baseW a) (lastW l)) (A : Vec Ideal S64x288x128 .f32) (q : Fin 64) (b : Fin 288) (d : Fin 128) (n : ℕ)
    (hn : n ≤ (l.val - 16 * a.val) / 32) :
    scatterLoop i h2 v48 v70 v72 (baseW a) (lastW l) hw A n (ix3 q b d)
      = A (ix3 q b d) + if 16 * a.val + 32 ≤ b.val ∧ b.val < 16 * a.val + 32 * (n + 1) then contrib co (fun n d => v48 (ix2 n d)) bc q b.val d else 0 := by
  have hl := loop_t1 a l hal
  induction n with
  | zero =>
    rw [if_neg (by omega), add_zero]
    rfl
  | succ n ih =>
    have hlt' : n < (k0_t1_loop (baseW a) (lastW l)).trips := by rw [hl.2.1]; omega
    have ih := ih (by omega)
    have hrow := off5_eq a l hal ⟨n, hlt'⟩
    unfold scatterLoop
    rw [dif_pos hlt', put_rows _ _ _ hrow]
    by_cases h : 16 * a.val + 32 * (n + 1) ≤ b.val ∧ b.val < 16 * a.val + 32 * (n + 1) + 32
    · rw [dif_pos h, pay3_eq, pay2_apply, window_rows _ _ _ hrow _ _ _ _ (by simp only; omega)]
      have eb : (⟨16 * a.val + 32 * (n + 1) + (b.val - (16 * a.val + 32 * (n + 1))), by omega⟩ : Fin 288) = b := Fin.ext (by simp only; omega)
      simp only [eb]
      rw [ih, if_neg (by omega), add_zero, if_pos (by omega)]
      refine congrArg (A (ix3 q b d) + ·) ((scatProd_contrib _ _ (row_word a ⟨n, by omega⟩) (by simp only; omega) v72 v70 v48 co bc hid hlt h70 q
        ⟨b.val - (16 * a.val + 32 * (n + 1)), by omega⟩ d).trans (congrArg (fun b => contrib co _ bc q b d) ?_))
      simp only; omega
    · rw [dif_neg h, ih]
      congr 1
      by_cases h' : 16 * a.val + 32 ≤ b.val ∧ b.val < 16 * a.val + 32 * (n + 1)
      · rw [if_pos h', if_pos (by omega)]
      · rw [if_neg h', if_neg (by omega)]

end Scatter

/-- A point of the first phase adds to every row what its chunk has for it. -/
theorem scatter_apply (i : grid0.Coords) (h2 : k0_cond2 i = 1#1) (v74 v76 : Elt Ideal .i32) (hw1 : k0_chk1 i v74) (hw2 : k0_chk2 i v74 v76)
    (x2 : Vec Ideal S400x128 .f32) (x3 x4 : Vec Ideal S1x32x400 .f32) (x5 : Vec Ideal S1x1x400 .i32) (x7 x8 : Vec Ideal S128x128 .f32)
    (x9 x10 : Vec Ideal S1x128 .f32) (x12 : Vec Ideal S2048x64 .bf16) (A : Vec Ideal S64x288x128 .f32)
    (a : Fin 16) (l : Fin 256) (hal : 16 * a.val ≤ l.val) (h74 : v74 = baseW a) (h76 : v76 = lastW l) (bc : Fin 400 → ℕ)
    (hid : ∀ n, x5 (ix3 0 0 n) = BitVec.ofNat 32 (bc n)) (hbc : ∀ n, 16 * a.val ≤ bc n ∧ bc n ≤ l.val)
    (he : ∀ r j, x12 (ix2 r j) = if coRow ⟨r.val / 32, by omega⟩ = j then 1 else 0)
    (q : Fin 64) (b : Fin 288) (d : Fin 128) :
    scatter i h2 v74 v76 hw1 hw2 x2 x3 x4 x5 x7 x8 x9 x10 x12 A (ix3 q b d)
      = A (ix3 q b d) + contrib (coefAt x3 x4) (fun n d => k0_pay9 x2 x7 x8 x9 x10 (ix2 n d)) bc q b.val d := by
  subst h74 h76
  have hl := loop_t1 a l hal
  have hlt : ∀ n, bc n < 256 := fun n => by have := (hbc n).2; omega
  have hid' : ∀ n, k0_pay13 x5 (ix2 0 n) = BitVec.ofNat 32 (bc n) := fun n => (pay13_apply x5 n).trans (hid n)
  have h70 : ∀ (q : Fin 64) (b : Fin 32) n, k0_pay12 x4 x3 x12 (ix2 ⟨q.val * 32 + b.val, by omega⟩ n) = coefAt x3 x4 (coRow q) n := fun q b n => by
    rw [pay12_apply x4 x3 x12 (fun r => coRow ⟨r.val / 32, by omega⟩) he]
    have e2 : (q.val * 32 + b.val) / 32 = q.val := by omega
    simp only [e2]
  have h4 := off4_eq a
  unfold scatter
  rw [hl.2.1, scatterLoop_apply i h2 _ _ _ a l hal (coefAt x3 x4) bc hid' hlt h70 hw2 _ q b d _ (le_refl _)]
  unfold scatterFirst
  rw [put_rows _ _ _ h4]
  by_cases h : 16 * a.val ≤ b.val ∧ b.val < 16 * a.val + 32
  · rw [dif_pos h, if_neg (by omega), add_zero, pay14_eq, pay2_apply, window_rows _ _ _ h4 _ _ _ _ (by simp only; omega)]
    have eb : (⟨16 * a.val + (b.val - 16 * a.val), by omega⟩ : Fin 288) = b := Fin.ext (by simp only; omega)
    simp only [eb]
    have hW : (baseW a).toNat = 16 * a.val := by rw [BitVec.toNat_ofNat]; omega
    rw [scatProd_contrib _ _ hW (by omega) _ _ _ (coefAt x3 x4) bc hid' hlt h70 q ⟨b.val - 16 * a.val, by omega⟩ d]
    congr 2
    simp only; omega
  · rw [dif_neg h]
    by_cases h' : 16 * a.val + 32 ≤ b.val ∧ b.val < 16 * a.val + 32 * ((l.val - 16 * a.val) / 32 + 1)
    · rw [if_pos h']
    · rw [if_neg h', contrib_eq_zero]
      intro n hn
      have := hbc n
      omega

/-! ### The gather -/

/-- What the gather reads for an atom: its coefficients times its row of the filtered sums. -/
def pick (co : Fin 64 → EReal) (B : Vec Ideal S64x288x128 .bf16) (n : Fin 256) (d : Fin 128) : EReal :=
  ∑ q : Fin 64, co (coRow q) * B (ix3 q ⟨n.val, by omega⟩ d)

theorem gathProd_pick (W : BitVec 32) (o : ℕ) (hW : W.toNat = o) (ho : o + 32 ≤ 288) (ids : IVec S400x1 32)
    (v24 : FVec Ideal S400x2048 .bf16) (B : Vec Ideal S64x288x128 .bf16) (off : Fin 3 → ℕ) (hoff : off = ![0, o, 0])
    (inb : ∀ a, off a + S64x32x128.size a ≤ S64x288x128.size a) (co : Fin 400 → Fin 64 → EReal) (bc : Fin 400 → Fin 256)
    (hid : ∀ n, ids (ix2 n 0) = BitVec.ofNat 32 (bc n).val)
    (h24 : ∀ n (q : Fin 64) (b : Fin 32), v24 (ix2 n ⟨q.val * 32 + b.val, by omega⟩) = co n (coRow q))
    (n : Fin 400) (d : Fin 128) :
    gathProd W ids (iota .tc S400x128 32 [1] iota_S400x128_d1_w32) v24 (VecWindow.window B off S64x32x128.size inb) (ix2 n d)
      = if o ≤ (bc n).val ∧ (bc n).val < o + 32 then pick (co n) B (bc n) d else 0 := by
  rw [gathProd_apply]
  by_cases h : o ≤ (bc n).val ∧ (bc n).val < o + 32
  · rw [if_pos h]
    refine Finset.sum_congr rfl fun q _ => ?_
    rw [Finset.sum_eq_single (⟨(bc n).val - o, by omega⟩ : Fin 32)]
    · rw [h24, mul_ite_one, hid, if_pos ((word_iff _ o _ W hW ho (bc n).isLt).2 (by simp only; omega)),
        window_rows _ _ _ hoff _ _ _ _ (by simp only; omega)]
      congr 2
      exact congrArg (fun b => ix3 q b d) (Fin.ext (by simp only; omega))
    · intro b _ hb
      rw [hid, if_neg, mul_zero, zero_mul]
      intro e
      have := (word_iff _ o _ W hW ho (bc n).isLt).1 e
      exact hb (Fin.ext (by simp only; omega))
    · intro hn; exact absurd (Finset.mem_univ _) hn
  · rw [if_neg h]
    refine Finset.sum_eq_zero fun q _ => Finset.sum_eq_zero fun b _ => ?_
    rw [hid, if_neg, mul_zero, zero_mul]
    intro e
    have := (word_iff _ o _ W hW ho (bc n).isLt).1 e
    have := b.isLt
    omega

/-- The gather's later windows, up to trip `k`. -/
theorem gatherLoop_apply (i : grid0.Coords) (h4 : k0_cond4 i = 1#1) (ids : IVec S400x1 32) (a : Fin 16) (l : Fin 256) (hal : 16 * a.val ≤ l.val)
    (hw : k0_chk4 i (baseW a) (lastW l)) (v24 : FVec Ideal S400x2048 .bf16) (B : Vec Ideal S64x288x128 .bf16) (acc : FVec Ideal S400x128 .f32)
    (co : Fin 400 → Fin 64 → EReal) (bc : Fin 400 → Fin 256) (hid : ∀ n, ids (ix2 n 0) = BitVec.ofNat 32 (bc n).val)
    (h24 : ∀ n (q : Fin 64) (b : Fin 32), v24 (ix2 n ⟨q.val * 32 + b.val, by omega⟩) = co n (coRow q)) (n : Fin 400) (d : Fin 128)
    (k : ℕ) (hk : k ≤ (l.val - 16 * a.val) / 32) :
    gatherLoop i h4 ids (baseW a) (lastW l) hw v24 (iota .tc S400x128 32 [1] iota_S400x128_d1_w32) B acc k (ix2 n d)
      = acc (ix2 n d) + if 16 * a.val + 32 ≤ (bc n).val ∧ (bc n).val < 16 * a.val + 32 * (k + 1) then pick (co n) B (bc n) d else 0 := by
  have hl := loop_t3 a l hal
  induction k with
  | zero =>
    rw [if_neg (by omega), add_zero]
    rfl
  | succ k ih =>
    have hlt' : k < (k0_t3_loop (baseW a) (lastW l)).trips := by rw [hl.2.1]; omega
    have hrow := off11_eq a l hal ⟨k, hlt'⟩
    have ih := ih (by omega)
    unfold gatherLoop
    rw [dif_pos hlt', pay6_eq]
    refine (congrArg₂ (· + ·) ih (gathProd_pick _ _ (row_word a ⟨k, by omega⟩) (by simp only; omega) ids v24 B _ hrow _ co bc hid h24 n d)).trans ?_
    rw [add_assoc]
    refine congrArg (acc (ix2 n d) + ·) ?_
    simp only
    by_cases h : 16 * a.val + 32 * (k + 1) ≤ (bc n).val ∧ (bc n).val < 16 * a.val + 32 * (k + 1) + 32
    · rw [if_pos h, if_neg (by omega), zero_add, if_pos (by omega)]
    · rw [if_neg h, add_zero]
      by_cases h' : 16 * a.val + 32 ≤ (bc n).val ∧ (bc n).val < 16 * a.val + 32 * (k + 1)
      · rw [if_pos h', if_pos (by omega)]
      · rw [if_neg h', if_neg (by omega)]

/-- A point of the second phase reads, for each of its atoms, the atom's row. -/
theorem gathered_apply (i : grid0.Coords) (h4 : k0_cond4 i = 1#1) (v18 v20 : Elt Ideal .i32) (hw3 : k0_chk3 i v18) (hw4 : k0_chk4 i v18 v20)
    (x6 : Vec Ideal S1x400x1 .i32) (x13 : Vec Ideal S64x2048 .bf16) (B : Vec Ideal S64x288x128 .bf16) (C : Vec Ideal S10000x64 .bf16)
    (a : Fin 16) (l : Fin 256) (hal : 16 * a.val ≤ l.val) (h18 : v18 = baseW a) (h20 : v20 = lastW l) (bc : Fin 400 → Fin 256)
    (hid : ∀ n, x6 (ix3 0 n 0) = BitVec.ofNat 32 (bc n).val) (hbc : ∀ n, 16 * a.val ≤ (bc n).val ∧ (bc n).val ≤ l.val)
    (he : ∀ j r, x13 (ix2 j r) = if coRow ⟨r.val / 32, by omega⟩ = j then 1 else 0)
    (co : Fin 400 → Fin 64 → EReal)
    (hC : ∀ n q, VecWindow.window C (k0_off7 i) S400x64.size (k0_off7_inb i h4) (ix2 n q) = co n q)
    (n : Fin 400) (d : Fin 128) :
    gathered i h4 v18 v20 hw3 hw4 x6 x13 B C (ix2 n d) = pick (co n) B (bc n) d := by
  subst h18 h20
  have hl := loop_t3 a l hal
  have hid' : ∀ n, k0_pay15 x6 (ix2 n 0) = BitVec.ofNat 32 (bc n).val := fun n => (pay15_apply x6 n).trans (hid n)
  have h24 : ∀ n (q : Fin 64) (b : Fin 32), k0_pay16 (VecWindow.window C (k0_off7 i) S400x64.size (k0_off7_inb i h4)) x13
      (ix2 n ⟨q.val * 32 + b.val, by omega⟩) = co n (coRow q) := fun n q b => by
    rw [pay16_apply _ x13 (fun r => coRow ⟨r.val / 32, by omega⟩) he]
    have e2 : (q.val * 32 + b.val) / 32 = q.val := by omega
    simp only [e2]
    exact hC n (coRow q)
  have hW : (baseW a).toNat = 16 * a.val := by rw [BitVec.toNat_ofNat]; omega
  unfold gathered
  rw [hl.2.1, gatherLoop_apply i h4 _ a l hal hw4 _ B _ co bc hid' h24 n d _ (le_refl _), pay17_eq]
  rw [gathProd_pick _ _ hW (by omega) _ _ B _ (off10_eq a) _ co bc hid' h24 n d]
  have := hbc n
  by_cases h : 16 * a.val ≤ (bc n).val ∧ (bc n).val < 16 * a.val + 32
  · rw [if_pos h, if_neg (by omega), add_zero]
  · rw [if_neg h, zero_add, if_pos (by omega)]

end Cert.KernelIdeal.Hand
-- ==== Proof.KernelIdeal.State.lean ====
/-
  What the scratch buffers hold as the points go by: the segment sums over the chunks so far, the filtered sums after the
  first phase, and the kept coefficients; and with them, what a point of the second phase leaves in the result's block.
-/
module

public import proofs.«01_k».proof.Proof.KernelIdeal.Inputs
public import proofs.«01_k».proof.Proof.KernelIdeal.Windows

@[expose] public section

set_option maxRecDepth 16384

noncomputable section

namespace Cert.KernelIdeal.Hand

open Cert.KernelIdeal Cert.KernelIdeal.Gen Cert.Hand
open Idealize.ShloMosaic Idealize.ShloMosaic.TcCoe

/-- What atom `n` adds to row `b` of coefficient row `q`. -/
def term (D : Data) (q : Fin 64) (b : ℕ) (d : Fin 128) (n : ℕ) : EReal :=
  if h : n < 10000 then if (D.bc ⟨n, h⟩).val = b then D.co ⟨n, h⟩ (coRow q) * D.xr ⟨n, h⟩ d else 0 else 0

theorem sum_term (D : Data) (q : Fin 64) (b : Fin 256) (d : Fin 128) :
    ∑ n ∈ Finset.range 10000, term D q b.val d n = D.seg q b d := by
  rw [Finset.sum_range]
  refine Finset.sum_congr rfl fun n _ => ?_
  unfold term
  rw [dif_pos n.isLt]
  simp only [Fin.ext_iff]

/-- A chunk's rows put into the kept coefficients, at an index. -/
theorem put_coefs {α : Type} (X : S10000x64.Idx → α) (off : Fin 2 → ℕ) (o : ℕ) (ho : off = ![o, 0]) (w : S400x64.Idx → α) (r : Fin 10000) (q : Fin 64) :
    VecWindow.put X off S400x64.size w (ix2 r q)
      = if h : o ≤ r.val ∧ r.val < o + 400 then w (ix2 ⟨r.val - o, by omega⟩ q) else X (ix2 r q) := by
  subst ho
  unfold VecWindow.put
  by_cases h : o ≤ r.val ∧ r.val < o + 400
  · have hall : ∀ a : Fin 2, (![o, 0] : Fin 2 → ℕ) a ≤ ((ix2 r q : S10000x64.Idx) a).val
        ∧ ((ix2 r q : S10000x64.Idx) a).val < (![o, 0] : Fin 2 → ℕ) a + S400x64.size a := by
      intro a
      match a with
      | 0 => exact h
      | 1 => exact ⟨Nat.zero_le _, by show q.val < 0 + 64; omega⟩
    rw [dif_pos h]
    refine (dif_pos hall).trans (congrArg w (funext fun a => Fin.ext ?_))
    match a with
    | 0 => rfl
    | 1 => exact Nat.sub_zero _
  · rw [dif_neg h]
    exact dif_neg fun hall => h (hall 0)

variable (m : (ℓ : Loc nD τ sig) → Buf (Elt Ideal) ℓ) (c : Dev nD) (hb : Sorted (batchOf m c))
  (hg : ∀ c, Checked (tab (entryV m) c)) (s : Scr Ideal)

theorem coord (t : Fin (cf (entryV m)).N) : ((cf (entryV m)).grid.coords t 0).val = t.val := coords_val t

include hb in
/-- The scatter at a point of the first phase: its chunk's part of the sum is added. -/
theorem scatter_point (t : Fin (cf (entryV m)).N) (ht : t.val < 25) (h2 : k0_cond2 ((cf (entryV m)).grid.coords t) = 1#1)
    (A : Vec Ideal S64x288x128 .f32) (q : Fin 64) (b : Fin 288) (d : Fin 128) :
    scatter ((cf (entryV m)).grid.coords t) h2 _ _ ((hg c).c1 _ h2) ((hg c).c2 _ h2) (blk m c t).x (blk m c t).kd (blk m c t).sc (blk m c t).br
        (blk m c t).w1 (blk m c t).w2 (blk m c t).ga (blk m c t).be (blk m c t).et A (ix3 q b d)
      = A (ix3 q b d) + ∑ i ∈ Finset.range 400, term (dataOf m c) q b.val d (400 * t.val + i) := by
  have hc := coord m t
  have hmin : min ((cf (entryV m)).grid.coords t 0).val 24 = t.val := by omega
  rw [scatter_apply _ h2 _ _ _ _ _ _ _ _ _ _ _ _ _ A (baseOf _ hb ⟨t.val, ht⟩) (lastOf _ hb ⟨t.val, ht⟩) (base_le_last _ hb _)
    (tab_base m c hb _ _ ⟨t.val, ht⟩ (by rw [off2_eq, hmin])) (tab_last m c hb _ _ ⟨t.val, ht⟩ (by rw [off3_eq, hmin]))
    (fun n => ((dataOf m c).bc (atom t.val n)).val) (fun n => blk_br m c t hb n)
    (fun n => blk_range m c hb t.val ⟨t.val, ht⟩ (by simp only; omega) n) (blk_et m c t)]
  refine congrArg (A (ix3 q b d) + ·) ?_
  rw [Finset.sum_range]
  refine Finset.sum_congr rfl fun n _ => ?_
  have e : (⟨400 * t.val + n.val, by omega⟩ : Fin 10000) = atom t.val n := Fin.ext (by show 400 * t.val + n.val = t.val % 25 * 400 + n.val; omega)
  unfold term
  rw [dif_pos (by omega), e, blk_coef]
  beta_reduce
  rw [blk_xr]

include hb in
/-- The segment sums after the first `n` points. -/
theorem st_A (n : ℕ) (h0 : 0 < n) (hn : n ≤ 25) (q : Fin 64) (b : Fin 288) (d : Fin 128) :
    (st (entryV m) hg c s n).A (ix3 q b d) = ∑ i ∈ Finset.range (400 * n), term (dataOf m c) q b.val d i := by
  induction n with
  | zero => exact absurd h0 (Nat.lt_irrefl _)
  | succ n ih =>
    have hN : n < (cf (entryV m)).N := lt_of_lt_of_le (by omega : n < 50) (le_refl 50)
    have hc := coord m ⟨n, hN⟩
    have h2 : k0_cond2 ((cf (entryV m)).grid.coords ⟨n, hN⟩) = 1#1 := (cond2_iff _).2 (by rw [hc]; simp only; omega)
    rw [show st (entryV m) hg c s (n + 1) = _ from st_succ (entryV m) hg c s ⟨n, hN⟩]
    show stepA _ _ (hg c) (ins (entryV m) c ⟨n, hN⟩) _ _ = _
    rw [Nat.mul_succ, Finset.sum_range_add]
    by_cases hz : n = 0
    · rw [stepA_first h2 ((isFirst_iff _).2 (by rw [hc]; exact hz))]
      refine (scatter_point m c hb hg ⟨n, hN⟩ (by simp only; omega) h2 _ q b d).trans ?_
      rw [pay1_apply]
      subst hz
      rfl
    · rw [stepA_later h2 (fun h => hz (by rw [isFirst_iff, hc] at h; exact h))]
      refine (scatter_point m c hb hg ⟨n, hN⟩ (by simp only; omega) h2 _ q b d).trans ?_
      rw [ih (by omega) (by omega)]

include hb in
/-- The filtered sums after the first phase. -/
theorem st_B (n : ℕ) (h25 : 25 ≤ n) (hn : n ≤ 50) (q : Fin 64) (b : Fin 256) (d : Fin 128) :
    (st (entryV m) hg c s n).B (ix3 q ⟨b.val, by omega⟩ d) = (dataOf m c).kf ⟨q.val / 2, by omega⟩ d * (dataOf m c).seg q b d := by
  induction n, h25 using Nat.le_induction with
  | base =>
    have hN : 24 < (cf (entryV m)).N := lt_of_lt_of_le (by omega : 24 < 50) (le_refl 50)
    have hc := coord m ⟨24, hN⟩
    rw [show st (entryV m) hg c s 25 = _ from st_succ (entryV m) hg c s ⟨24, hN⟩, step_B_last ((isLast_iff _).2 hc), pay5_apply]
    refine congrArg₂ (· * ·) (blk_kf m c ⟨24, hN⟩ q d) ?_
    refine Eq.trans ?_ ((st_A m c hb hg s 25 (by omega) (le_refl _) q ⟨b.val, by omega⟩ d).trans (sum_term _ q b d))
    rw [show st (entryV m) hg c s 25 = _ from st_succ (entryV m) hg c s ⟨24, hN⟩]
    rfl
  | succ n h ih =>
    have hN : n < (cf (entryV m)).N := lt_of_lt_of_le (by omega : n < 50) (le_refl 50)
    have hc := coord m ⟨n, hN⟩
    rw [show st (entryV m) hg c s (n + 1) = _ from st_succ (entryV m) hg c s ⟨n, hN⟩,
      step_B_other (fun h' => by rw [isLast_iff, hc] at h'; simp only at h'; omega)]
    exact ih (by omega)

/-- The kept coefficients after the first `n` points. -/
theorem st_C (n : ℕ) (hn : n ≤ 50) (r : Fin 10000) (hr : r.val < 400 * n) (q : Fin 64) :
    (st (entryV m) hg c s n).C (ix2 r q) = (dataOf m c).co r q := by
  induction n with
  | zero => exact absurd hr (by omega)
  | succ n ih =>
    have hN : n < (cf (entryV m)).N := lt_of_lt_of_le (by omega : n < 50) (le_refl 50)
    have hc := coord m ⟨n, hN⟩
    simp only at hc
    rw [show st (entryV m) hg c s (n + 1) = _ from st_succ (entryV m) hg c s ⟨n, hN⟩]
    by_cases h : n < 25
    · rw [step_C_early ((cond2_iff _).2 (by rw [hc]; exact h))]
      unfold coefs
      rw [put_coefs _ _ (n * 400) (by rw [off1_eq, hc, Nat.min_eq_left (by omega)])]
      by_cases h' : n * 400 ≤ r.val ∧ r.val < n * 400 + 400
      · rw [dif_pos h', pay11_apply, blk_coef]
        have e : atom n ⟨r.val - n * 400, by omega⟩ = r := Fin.ext (by show n % 25 * 400 + (r.val - n * 400) = r.val; omega)
        simp only [e]
      · rw [dif_neg h']
        exact ih (by omega) (by omega)
    · rw [step_C_late (fun h' => h (by rw [cond2_iff, hc] at h'; exact h'))]
      exact ih (by omega) (by omega)

include hb in
/-- What a point of the second phase leaves in the result's block: its chunk's rows of the result. -/
theorem stepO_out (t : Fin (cf (entryV m)).N) (ht : 25 ≤ t.val) (O : Vec Ideal S400x128 .f32) (n : Fin 400) (d : Fin 128) :
    stepO ((cf (entryV m)).grid.coords t) (tab (entryV m) c) (hg c) (ins (entryV m) c t) (st (entryV m) hg c s t.val) O (ix2 n d)
      = (dataOf m c).out (atom t.val n) d := by
  have hc := coord m t
  have hN : t.val < 50 := t.isLt
  have h4 : k0_cond4 ((cf (entryV m)).grid.coords t) = 1#1 := (cond4_iff _).2 (by rw [hc]; exact ht)
  rw [stepO_late h4]
  unfold updated
  refine (blk_out m c t _ n d).trans ?_
  unfold Data.out
  refine congrArg (fun f => dense (dataOf m c).u1 (dataOf m c).u2 f d) (funext fun k => congrArg ((dataOf m c).x (atom t.val n) k + ·) ?_)
  rw [gathered_apply _ h4 _ _ _ _ _ _ _ _ (baseOf _ hb ⟨t.val - 25, by omega⟩) (lastOf _ hb ⟨t.val - 25, by omega⟩) (base_le_last _ hb _)
    (tab_base m c hb _ _ ⟨t.val - 25, by omega⟩ (by rw [off8_eq, hc])) (tab_last m c hb _ _ ⟨t.val - 25, by omega⟩ (by rw [off9_eq, hc]))
    (fun n => (dataOf m c).bc (atom t.val n)) (fun n => blk_bc m c t hb n)
    (fun n => blk_range m c hb t.val ⟨t.val - 25, by omega⟩ (by simp only; omega) n) (blk_eb m c t)
    (fun n q => (dataOf m c).co (atom t.val n) q) ?_ n k]
  · unfold pick Data.agg
    refine Finset.sum_congr rfl fun q _ => congrArg ((dataOf m c).co (atom t.val n) (coRow q) * ·) ?_
    exact st_B m c hb hg s t.val ht (by omega) q _ k
  · intro n q
    rw [← st_C m c hg s t.val (by omega) (atom t.val n) (by show t.val % 25 * 400 + n.val < _; omega) q]
    unfold VecWindow.window
    refine congrArg (st (entryV m) hg c s t.val).C (funext fun a => Fin.ext ?_)
    match a with
    | 0 =>
      show k0_off7 ((cf (entryV m)).grid.coords t) 0 + 1 * n.val = t.val % 25 * 400 + n.val
      rw [off7_eq, hc]
      show (t.val - 25) * 400 + 1 * n.val = _
      omega
    | 1 =>
      show k0_off7 ((cf (entryV m)).grid.coords t) 1 + 1 * q.val = q.val
      rw [off7_eq]
      show 0 + 1 * q.val = _
      omega

end Cert.KernelIdeal.Hand
-- ==== Proof.KernelIdeal.Output.lean ====
/-
  The kernel's result after a run: at every index what the model says.
-/
module

public import proofs.«01_k».proof.Proof.KernelIdeal.State
public import Idealize.ShloMosaic.Lib.Pipeline.Covers
public import Idealize.ShloMosaic.Lib.Pipeline.ValueKit.Geometry

@[expose] public section

set_option maxRecDepth 16384

noncomputable section

namespace Cert.KernelIdeal.Hand

open Cert.KernelIdeal Cert.KernelIdeal.Gen Cert.Hand
open Idealize.ShloMosaic Idealize.ShloMosaic.TcCoe
open Idealize.SL Idealize.SL.RA Idealize.SL.Sem

section Geometry

variable (V : ∀ c : Dev nD, ∀ b : Ref sig .tc, Buf (Elt Ideal) ((c.tc : Thread nD τ).loc b))

/-- The result's blocks cover it. -/
theorem covers14 : ((cf V).win 14).Covers := by
  have hsz : ∀ a : Fin 2, 0 < (![400, 128] : Fin 2 → ℕ) a := by decide
  refine Pipeline.Window.covers_of_index_surj _ rfl (fun a => ?_) fun β => ?_
  · have e : ((cf V).win 14).size = (![400, 128] : Fin 2 → ℕ) := rfl
    rw [e]
    exact hsz a
  · have h0 : (β (0 : Fin 2)).val < 25 := lt_of_lt_of_eq (β (0 : Fin 2)).isLt (show (10000 + 400 - 1) / 400 = 25 by norm_num)
    have h1 : (β (1 : Fin 2)).val < 1 := lt_of_lt_of_eq (β (1 : Fin 2)).isLt (show (128 + 128 - 1) / 128 = 1 by norm_num)
    have e : ∀ a : Fin 2, ((cf V).win 14).index (⟨(β (0 : Fin 2)).val + 25, lt_of_lt_of_le (by omega : _ < 50) (le_refl 50)⟩ : Fin (cf V).N) a = (β a).val := by
      intro a
      match a with
      | 0 => exact (congrFun (index14 V _) (0 : Fin 2)).trans (Nat.add_sub_cancel _ _)
      | 1 => exact (congrFun (index14 V _) (1 : Fin 2)).trans (by show 0 = _; omega)
    exact ⟨_, e⟩

/-- The result is written back in the second phase only. -/
theorem flush14 (t : Fin (cf V).N) (h : ((cf V).win 14).flush t = true) : 25 ≤ t.val := by
  by_contra hlt
  have hN : t.val < 50 := t.isLt
  unfold Pipeline.Window.flush at h
  rw [Bool.and_eq_true] at h
  have h := h.2
  rw [Bool.or_eq_true, decide_eq_true_eq, decide_eq_true_eq] at h
  rcases h with h | ⟨h, hne⟩
  · have : t.val + 1 = 50 := h
    omega
  · refine hne (((index14 V _).trans ?_).trans (index14 V t).symm)
    simp only
    congr 1
    omega

end Geometry

variable (m : (ℓ : Loc nD τ sig) → Buf (Elt Ideal) ℓ) (c : Dev nD) (hb : Sorted (batchOf m c))

/-- The result as an array. -/
def outArr (D : Data) : FVec Ideal S10000x128 .f32 := fun i => D.out (i 0) (i 1)

include hb in
/-- The result's array after a run. -/
theorem out_eq {hg : ∀ c, Checked (tab (entryV m) c)} {r : PUnit × MemSt nD τ sig (Elt Ideal)}
    (h : Pipeline.RDat.FramePost (cf (entryV m)) (rdat (entryV m) hg) (entryV m) r) :
    r.2.mem ((c.tc : Thread nD τ).loc main_v60) = outArr (dataOf m c) := by
  obtain ⟨after, hL, hA⟩ := h.exists_exact c
  refine (hA 14).trans ?_
  refine Pipeline.Dat.arrAt_eq_of_covers _ 14 _ (covers14 _) fun t hf y => ?_
  have ht := flush14 _ t hf
  obtain ⟨Y, -, s, hX⟩ := hL 14 t hf
  have hN : t.val < 50 := t.isLt
  let n : Fin 400 := ⟨(y (0 : Fin 2)).val, (y (0 : Fin 2)).isLt⟩
  let d : Fin 128 := ⟨(y (1 : Fin 2)).val, (y (1 : Fin 2)).isLt⟩
  have e : ((cf (entryV m)).win 14).xinj ((cf (entryV m)).grid.coords t) y = (ix2 n d : S400x128.Idx) := by
    have : ∀ a : Fin 2, (((cf (entryV m)).win 14).xinj ((cf (entryV m)).grid.coords t) y a).val = ((ix2 n d : S400x128.Idx) a).val := by
      intro a
      match a with
      | 0 => rfl
      | 1 => rfl
    exact funext fun a => Fin.ext (this a)
  refine (congrArg (after 14 t) e).trans ((congrFun hX _).trans ((stepO_out m c hb hg s t ht Y n d).trans ?_))
  refine congrArg₂ (dataOf m c).out (Fin.ext ?_) (Fin.ext ?_)
  · blk_simp
    exact (at_block (congrFun (index14 (entryV m) t) (0 : Fin 2)) (by show (t.val - 25) * 400 + (y (0 : Fin 2)).val = t.val % 25 * 400 + (y (0 : Fin 2)).val; omega)).symm
  · blk_simp
    exact (at_block (congrFun (index14 (entryV m) t) (1 : Fin 2)) (by show 0 * 128 + (y (1 : Fin 2)).val = (y (1 : Fin 2)).val; omega)).symm

/-- Under the precondition the kernel's result is what the model says, and the arguments are left as they were. -/
theorem value_sorted (hb : ∀ c, Sorted (batchOf m c)) (ρ : Dev nD → PrngReg) :
    θ_run (defs (F := Ideal)) (onTc (main (F := Ideal))) ⟨m, fun _ => 0, ρ⟩ fun r => ∀ c : Dev nD,
      r.2.mem ((c.tc : Thread nD τ).loc main_v60) = outArr (dataOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨out_eq m c (hb c) h.1, args_kept m c h.1⟩) (run_sorted m hb ρ)

end Cert.KernelIdeal.Hand
-- ==== Proof.RefFrame.lean ====
/-
  The reference runs, leaves its arguments as they were, and every semaphore counter at zero.
-/
module

public import proofs.«01_k».proof.Proof.Gen.ReferenceIdeal.Run
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

variable {F : FTy → Type} [FloatOps F]

/-- The reference's arguments end unchanged and its counters at zero. -/
theorem frame (m : (ℓ : Loc nD τ sig) → Buf (Elt F) ℓ) (ρ : Dev nD → PrngReg) :
    θ_run (defs (F := F)) (onTc (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0 :=
  (θ_run defs _ _).mono (fun r h => ⟨fun c => (h c).2, sem_eq_zero_of_no_sems rfl _⟩) (Cert.ReferenceIdeal.Value.run m ρ)

end Cert.ReferenceIdeal.Hand

end
-- ==== Proof.RefDense.lean ====
/-
  The reference's dense layers and its normalisation, at an index.
-/
module

public import proofs.«01_k».proof.Proof.Gen.ReferenceIdeal.Run
public import proofs.«01_k».proof.Proof.Model

@[expose] public section

set_option maxRecDepth 16384

noncomputable section

namespace Cert.ReferenceIdeal.Hand

open Cert.ReferenceIdeal Cert.ReferenceIdeal.Gen Cert.ReferenceIdeal.Value Cert.Hand
open Idealize.ShloMosaic Idealize.ShloMosaic.TcCoe Idealize.ShloMosaic.StableHlo

/-! ### Reciprocal square roots -/

theorem square_nonneg (x : EReal) : 0 ≤ x * x := by
  induction x with
  | bot => simp
  | top => simp
  | coe r => rw [← EReal.coe_mul]; exact EReal.coe_nonneg.2 (mul_self_nonneg r)

theorem width_eq : width = ((128 : ℝ) : EReal) := by
  unfold width
  simp [Ideal.ofBits, Ideal.ieee, -EReal.coe_mul]
  norm_num

theorem eps_pos : 0 < eps := by
  unfold eps
  simp [Ideal.ofBits, Ideal.ieee, -EReal.coe_mul]

theorem variance_nonneg (x : Fin 128 → EReal) : 0 ≤ variance x := by
  unfold variance
  rw [width_eq, Ideal.div_coe (by norm_num)]
  exact mul_nonneg (Finset.sum_nonneg fun j _ => square_nonneg _) (EReal.coe_nonneg.2 (by norm_num))

/-- Division by the square root of a positive number is multiplication by its reciprocal square root. -/
theorem div_sqrt (x v : EReal) (hv : 0 < v) : Ideal.div x (Ideal.sqrt v) = x * Ideal.rsqrt v := by
  induction v with
  | bot => exact absurd hv (by simp)
  | top =>
    show Ideal.div x ⊤ = x * 0
    unfold Ideal.div
    rw [if_neg (by simp), EReal.inv_top]
  | coe r =>
    have hr : 0 < r := EReal.coe_pos.1 hv
    rw [Ideal.sqrt_coe, Ideal.rsqrt_coe, if_neg hr.not_gt, if_neg hr.not_gt, if_neg hr.ne', Ideal.div_coe (Real.sqrt_pos.2 hr).ne', one_div]

/-! ### On any array -/

/-- `y / (1 + exp (-y))` as the reference writes it. -/
abbrev siluA (Y : FVec Ideal S10000x128 .f32) : FVec Ideal S10000x128 .f32 :=
  mulf Y (Host.divf (broadcastInDim S10000x128 ![] bcast_S_S10000x128 (constant S_ .f32 0x3F800000#32))
    (addf (broadcastInDim S10000x128 ![] bcast_S_S10000x128 (constant S_ .f32 0x3F800000#32)) (Host.exp (Host.negf Y))))

theorem siluA_apply (Y : FVec Ideal S10000x128 .f32) (n : Fin 10000) (d : Fin 128) : siluA Y (ix2 n d) = silu (Y (ix2 n d)) := by
  unfold siluA
  pointwise
  rfl

abbrev layer (X : FVec Ideal S10000x128 .f32) (W : FVec Ideal S128x128 .f32) : FVec Ideal S10000x128 .f32 :=
  Host.dotGeneral dot_S10000x128_S128x128_S10000x128_1_0_0_1_n_n none X (transpose S128x128 [1, 0] W transposes_S128x128_S128x128_1_0)

theorem layer_apply (X : FVec Ideal S10000x128 .f32) (W : FVec Ideal S128x128 .f32) (n : Fin 10000) (d : Fin 128) :
    layer X W (ix2 n d) = ∑ k : Fin 128, X (ix2 n k) * W (ix2 d k) := by
  unfold layer
  pointwise

/-- A row's mean as the reference writes it. -/
abbrev meanA (X : FVec Ideal S10000x128 .f32) : FVec Ideal S10000x1 .f32 :=
  Host.divf (broadcastInDim S10000x1 ![0] bcast_S10000_S10000x1_0 (Host.reduceAdd X (constant S_ .f32 0x00000000#32) reducesTo_S10000x128_S10000_d1 h_S_)) (broadcastInDim S10000x1 ![] bcast_S_S10000x1 (constant S_ .f32 0x43000000#32))

theorem meanA_apply (X : FVec Ideal S10000x128 .f32) (n : Fin 10000) : meanA X (ix2 n 0) = mean fun d => X (ix2 n d) := by
  unfold meanA
  pointwise
  rfl

/-- The number of columns less the correction, as the reference writes it. -/
abbrev lenA : FVec Ideal S_ .f32 := subf (constant S_ .f32 0x43000000#32) (sitofp .f32 (constantI S_ 32 0#32))

/-- A row less its mean, as the reference writes it. -/
abbrev centred (X : FVec Ideal S10000x128 .f32) : FVec Ideal S10000x128 .f32 :=
  subf X (broadcastInDim S10000x128 ![0, 1] bcast_S10000x1_S10000x128_0_1 (meanA X))

theorem centred_apply (X : FVec Ideal S10000x128 .f32) (n : Fin 10000) (d : Fin 128) :
    centred X (ix2 n d) = X (ix2 n d) - mean fun d => X (ix2 n d) := by
  rw [← meanA_apply]
  unfold centred
  pointwise

/-- A row's variance and the small constant, as the reference writes it. -/
abbrev varA (X : FVec Ideal S10000x128 .f32) : FVec Ideal S10000x1 .f32 :=
  addf (select (broadcastInDim S10000x1 ![] bcast_S_S10000x1 (cmpf .ogt lenA (constant S_ .f32 0x00000000#32)))
    (Host.divf (broadcastInDim S10000x1 ![0] bcast_S10000_S10000x1_0 (Host.reduceAdd (mulf (centred X) (centred X)) (constant S_ .f32 0x00000000#32) reducesTo_S10000x128_S10000_d1 h_S_)) (broadcastInDim S10000x1 ![] bcast_S_S10000x1 lenA))
    (broadcastInDim S10000x1 ![] bcast_S_S10000x1 (id (constant S_ .f32 0x7FC00000#32)))) (broadcastInDim S10000x1 ![] bcast_S_S10000x1 (constant S_ .f32 0x3727C5AC#32))

theorem varA_apply (X : FVec Ideal S10000x128 .f32) (n : Fin 10000) : varA X (ix2 n 0) = variance (fun d => X (ix2 n d)) + eps := by
  unfold varA
  generalize hY : centred X = Y
  pointwise
  have e : Ideal.ofBits .f32 0x43000000#32 - FloatOps.sitofp (F := Ideal) .f32 0#32 = width := by
    have h0 : FloatOps.sitofp (F := Ideal) .f32 0#32 = (0 : EReal) := by
      show (((0#32 : BitVec 32).toInt : ℝ) : EReal) = 0
      simp
    rw [h0, sub_zero]
    rfl
  rw [e, if_pos (by rw [width_eq]; exact EReal.coe_pos.2 (by norm_num))]
  subst hY
  simp only [centred_apply]
  rfl

/-- The normalisation as the reference writes it. -/
abbrev normA (X : FVec Ideal S10000x128 .f32) (ga be : FVec Ideal S128 .f32) : FVec Ideal S10000x128 .f32 :=
  addf (mulf (Host.divf (centred X) (broadcastInDim S10000x128 ![0, 1] bcast_S10000x1_S10000x128_0_1 (Host.sqrt (varA X))))
    (broadcastInDim S10000x128 ![0, 1] bcast_S1x128_S10000x128_0_1 (broadcastInDim S1x128 ![1] bcast_S128_S1x128_1 ga)))
    (broadcastInDim S10000x128 ![0, 1] bcast_S1x128_S10000x128_0_1 (broadcastInDim S1x128 ![1] bcast_S128_S1x128_1 be))

theorem normA_apply (X : FVec Ideal S10000x128 .f32) (ga be : FVec Ideal S128 .f32) (n : Fin 10000) (d : Fin 128) :
    normA X ga be (ix2 n d) = lnorm (fun d => ga (ix1 d)) (fun d => be (ix1 d)) (fun d => X (ix2 n d)) d := by
  unfold lnorm
  rw [← centred_apply, ← varA_apply, ← div_sqrt]
  · unfold normA
    generalize hY : centred X = Y
    generalize hZ : varA X = Z
    pointwise
  · rw [varA_apply]
    exact lt_of_lt_of_le eps_pos (le_add_of_nonneg_left (variance_nonneg _))

/-! ### The reference's terms -/

variable (V : Valuation τ sig (Elt Ideal))

/-- The arguments' entries. -/
def dataOf (V : Valuation τ sig (Elt Ideal)) : Data :=
  Data.of (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))

/-- The dense layers with the residual, on any array and any two weights. -/
theorem dense_apply (X : FVec Ideal S10000x128 .f32) (W1 W2 : FVec Ideal S128x128 .f32) (n : Fin 10000) (d : Fin 128) :
    addf X (siluA (layer (siluA (layer X W1)) W2)) (ix2 n d)
      = dense (fun i j => W1 (ix2 j i)) (fun i j => W2 (ix2 j i)) (fun k => X (ix2 n k)) d := by
  show X (ix2 n d) + siluA _ (ix2 n d) = _
  rw [siluA_apply, layer_apply]
  simp only [siluA_apply, layer_apply]
  rfl

theorem v18_apply (n : Fin 10000) (d : Fin 128) :
    (res_main_v18 V : FVec Ideal S10000x128 .f32) (ix2 n d) = dense (dataOf V).w1 (dataOf V).w2 ((dataOf V).x n) d :=
  dense_apply (V (Proc.devRef .tc main_arg0)) (V (Proc.devRef .tc main_arg5)) (V (Proc.devRef .tc main_arg6)) n d

theorem v36_apply (n : Fin 10000) (d : Fin 128) : (res_main_v36 V : FVec Ideal S10000x128 .f32) (ix2 n d) = (dataOf V).xr n d := by
  refine (normA_apply (res_main_v18 V) (V (Proc.devRef .tc main_arg7)) (V (Proc.devRef .tc main_arg8)) n d).trans ?_
  simp only [v18_apply]
  rfl

theorem v39_apply (n : Fin 10000) (k : Fin 32) :
    (res_main_v39 V : FVec Ideal S10000x32x1 .f32) (ix3 n k 0) = (dataOf V).co n ⟨k.val, by omega⟩ := by
  unfold Data.co
  rw [dif_pos k.isLt]
  unfold res_main_v39
  pointwise
  rfl

theorem v42_apply (n : Fin 10000) (k : Fin 32) :
    (res_main_v42 V : FVec Ideal S10000x32x1 .f32) (ix3 n k 0) = (dataOf V).co n ⟨k.val + 32, by omega⟩ := by
  unfold Data.co
  rw [dif_neg (by simp only; omega)]
  simp only [Nat.add_sub_cancel]
  unfold res_main_v42
  pointwise
  rfl

theorem v59_apply (k : Fin 32) (d : Fin 128) :
    (res_main_v59 V : FVec Ideal S1x32x128 .f32) (ix3 0 k d) = (dataOf V).kf k d := by
  unfold res_main_v59
  pointwise
  rfl

end Cert.ReferenceIdeal.Hand
-- ==== Proof.RefGather.lean ====
/-
  The reference's segment sums and its reading of them back, at an index.
-/
module

public import proofs.«01_k».proof.Proof.RefDense
public import proofs.«01_k».proof.Proof.Sorted
public import Idealize.ShloMosaic.Lib.Routing.OpsPair

@[expose] public section

set_option maxRecDepth 16384

noncomputable section

namespace Cert.ReferenceIdeal.Hand

open Cert.ReferenceIdeal Cert.ReferenceIdeal.Gen Cert.ReferenceIdeal.Value Cert.Hand
open Idealize.ShloMosaic Idealize.ShloMosaic.TcCoe Idealize.ShloMosaic.StableHlo

/-- How the segment sums' updates are placed. -/
abbrev scD : ScatterDims S256x32x128 S10000x1 S10000x32x128 := scatter_S256x32x128_S10000x1_S10000x32x128_12_0_0_1

/-- How the rows are read back. -/
abbrev gaD : GatherDims S256x32x128 S10000x1 S10000x32x128 := gather_S256x32x128_S10000x1_S10000x32x128_12_0_n_n_0_1_132128

theorem scatter_start (n : Fin 10000) (k : Fin 32) (d : Fin 128) (idx : IVec S10000x1 32) :
    scD.start (ix3 n k d) idx 0 = (idx (ix2 n 0)).toInt := by
  show (idx _).toInt = _
  refine congrArg (fun i => (idx i).toInt) (funext fun a => ?_)
  match a with
  | 0 => rfl
  | 1 => rfl

theorem scatter_start1 (n : Fin 10000) (k : Fin 32) (d : Fin 128) (idx : IVec S10000x1 32) : scD.start (ix3 n k d) idx 1 = 0 := rfl
theorem scatter_start2 (n : Fin 10000) (k : Fin 32) (d : Fin 128) (idx : IVec S10000x1 32) : scD.start (ix3 n k d) idx 2 = 0 := rfl
theorem scatter_window0 (n : Fin 10000) (k : Fin 32) (d : Fin 128) : scD.window (ix3 n k d) 0 = 0 := rfl
theorem scatter_window1 (n : Fin 10000) (k : Fin 32) (d : Fin 128) : scD.window (ix3 n k d) 1 = k.val := rfl
theorem scatter_window2 (n : Fin 10000) (k : Fin 32) (d : Fin 128) : scD.window (ix3 n k d) 2 = d.val := rfl

/-- An update lands at the row that its index names, at its own place in the row. -/
theorem scatter_lands (idx : IVec S10000x1 32) (n : Fin 10000) (k k' : Fin 32) (d d' : Fin 128) (s : Fin 256) :
    scD.resultIdx? (ix3 n k' d') idx = some (ix3 s k d) ↔ (idx (ix2 n 0)).toInt = s.val ∧ k' = k ∧ d' = d := by
  rw [Routing.resultIdx?_eq_some]
  constructor
  · intro h
    have h0 := h 0
    have h1 := h 1
    have h2 := h 2
    rw [scatter_start, scatter_window0] at h0
    rw [scatter_start1, scatter_window1] at h1
    rw [scatter_start2, scatter_window2] at h2
    refine ⟨by simpa using h0, Fin.ext ?_, Fin.ext ?_⟩
    · have : (0 : Int) + (k'.val : Int) = (k.val : Int) := h1
      omega
    · have : (0 : Int) + (d'.val : Int) = (d.val : Int) := h2
      omega
  · rintro ⟨h, rfl, rfl⟩ a
    match a with
    | 0 => rw [scatter_start, scatter_window0, h]; rfl
    | 1 => rw [scatter_start1, scatter_window1]; exact zero_add _
    | 2 => rw [scatter_start2, scatter_window2]; exact zero_add _

theorem gather_row (x : S256x32x128.Idx → EReal) (idx : IVec S10000x1 32) (n : Fin 10000) (k : Fin 32) (d : Fin 128) (s : Fin 256)
    (h : (idx (ix2 n 0)).toInt = s.val) : Host.gather gaD x idx (ix3 n k d) = x (ix3 s k d) := by
  unfold Host.gather
  refine congrArg x (funext fun a => Fin.ext ?_)
  have e : gaD.start (ix3 n k d) idx 0 = min (idx (ix2 n 0)).toInt.toNat 255 := by
    show min (idx _).toInt.toNat 255 = _
    refine congrArg (fun i => min (idx i).toInt.toNat 255) (funext fun a => ?_)
    match a with
    | 0 => rfl
    | 1 => rfl
  match a with
  | 0 =>
    show gaD.start (ix3 n k d) idx 0 + 0 + 0 = s.val
    rw [e, h]
    show min s.val 255 + 0 + 0 = s.val
    omega
  | 1 =>
    show 0 + 0 + k.val = k.val
    omega
  | 2 =>
    show 0 + 0 + d.val = d.val
    omega

/-- The scatter at an index: the sum of the updates whose index names the row. -/
theorem scatterAdd_apply (x : FVec Ideal S256x32x128 .f32) (idx : IVec S10000x1 32) (u : FVec Ideal S10000x32x128 .f32)
    (s : Fin 256) (k : Fin 32) (d : Fin 128) :
    Host.scatterAdd scD x idx u (ix3 s k d) = x (ix3 s k d) + ∑ n : Fin 10000, if (idx (ix2 n 0)).toInt = s.val then u (ix3 n k d) else 0 := by
  show x (ix3 s k d) + ∑ j ∈ Finset.univ.filter (fun j => scD.resultIdx? j idx = some (ix3 s k d)), u j = _
  refine congrArg (x (ix3 s k d) + ·) ?_
  have eta : ∀ j : S10000x32x128.Idx, j = ix3 (j 0) (j 1) (j 2) := fun j => funext fun a => by
    match a with
    | 0 => rfl
    | 1 => rfl
    | 2 => rfl
  rw [← Finset.sum_filter]
  refine Finset.sum_bij' (fun j _ => j 0) (fun n _ => ix3 n k d) ?_ ?_ ?_ ?_ ?_
  · intro j hj
    have hj := (Finset.mem_filter.1 hj).2
    rw [eta j] at hj
    exact Finset.mem_filter.2 ⟨Finset.mem_univ _, ((scatter_lands idx _ k _ d _ s).1 hj).1⟩
  · intro n hn
    exact Finset.mem_filter.2 ⟨Finset.mem_univ _, (scatter_lands idx n k k d d s).2 ⟨(Finset.mem_filter.1 hn).2, rfl, rfl⟩⟩
  · intro j hj
    have hj := (Finset.mem_filter.1 hj).2
    rw [eta j] at hj
    obtain ⟨-, h1, h2⟩ := (scatter_lands idx _ k _ d _ s).1 hj
    rw [← h1, ← h2]
    exact (eta j).symm
  · intro n hn
    rfl
  · intro j hj
    have hj := (Finset.mem_filter.1 hj).2
    rw [eta j] at hj
    obtain ⟨-, h1, h2⟩ := (scatter_lands idx _ k _ d _ s).1 hj
    show u j = u (ix3 (j 0) k d)
    rw [← h1, ← h2]
    exact congrArg u (eta j)

/-! ### On any arrays -/

section Arrays

variable (b : IVec S10000 32) (hlt : ∀ n, (b (ix1 n)).toNat < 256) (P Q : FVec Ideal S10000x32x1 .f32) (X : FVec Ideal S10000x128 .f32)
  (Kf : FVec Ideal S1x32x128 .f32)

/-- The segment sums as the reference writes them. -/
abbrev segA : FVec Ideal S256x32x128 .f32 :=
  Host.scatterAdd scD (broadcastInDim S256x32x128 ![] bcast_S_S256x32x128 (constant S_ .f32 0x00000000#32)) (broadcastInDim S10000x1 ![0] bcast_S10000_S10000x1_0 b)
    (mulf (broadcastInDim S10000x32x128 ![0, 1, 2] bcast_S10000x32x1_S10000x32x128_0_1_2 P)
      (broadcastInDim S10000x32x128 ![0, 1, 2] bcast_S10000x1x128_S10000x32x128_0_1_2 (broadcastInDim S10000x1x128 ![0, 2] bcast_S10000x128_S10000x1x128_0_2 X)))

theorem upd_apply (n : Fin 10000) (k : Fin 32) (d : Fin 128) :
    (mulf (broadcastInDim S10000x32x128 ![0, 1, 2] bcast_S10000x32x1_S10000x32x128_0_1_2 P)
      (broadcastInDim S10000x32x128 ![0, 1, 2] bcast_S10000x1x128_S10000x32x128_0_1_2 (broadcastInDim S10000x1x128 ![0, 2] bcast_S10000x128_S10000x1x128_0_2 X))
        : FVec Ideal S10000x32x128 .f32) (ix3 n k d) = P (ix3 n k 0) * X (ix2 n d) := by
  pointwise

theorem id_apply (n : Fin 10000) : broadcastInDim S10000x1 ![0] bcast_S10000_S10000x1_0 b (ix2 n 0) = b (ix1 n) := by
  pointwise

theorem segA_apply (s : Fin 256) (k : Fin 32) (d : Fin 128) :
    segA b P X (ix3 s k d) = ∑ n : Fin 10000, if (b (ix1 n)).toInt = s.val then P (ix3 n k 0) * X (ix2 n d) else 0 := by
  unfold segA
  rw [scatterAdd_apply]
  rw [show (broadcastInDim S256x32x128 ![] bcast_S_S256x32x128 (constant S_ .f32 0x00000000#32) : FVec Ideal S256x32x128 .f32) (ix3 s k d) = 0 by pointwise, zero_add]
  refine Finset.sum_congr rfl fun n _ => ?_
  rw [upd_apply P X n k d, id_apply b n]

/-- The ids, a negative one wrapped, as the reference writes them. -/
abbrev wrapA : IVec S10000x1 32 :=
  broadcastInDim S10000x1 ![0] bcast_S10000_S10000x1_0 (select (cmpi .slt b (broadcastInDim S10000 ![] bcast_S_S10000 (constantI S_ 32 0#32)))
    (addi b (broadcastInDim S10000 ![] bcast_S_S10000 (constantI S_ 32 256#32))) b)

theorem wrapA_apply (n : Fin 10000) (h : (b (ix1 n)).toNat < 256) : wrapA b (ix2 n 0) = b (ix1 n) := by
  unfold wrapA
  rw [id_apply]
  exact Routing.wrap_of_lt (b (ix1 n)) _ (lt_trans h (by norm_num))

theorem toInt_small (x : BitVec 32) (h : x.toNat < 256) : x.toInt = x.toNat := by
  rw [BitVec.toInt_eq_toNat_cond, if_pos (by omega)]

/-- What an atom reads back as the reference writes it. -/
abbrev backA : FVec Ideal S10000x32x128 .f32 :=
  Host.gather gaD (mulf (broadcastInDim S256x32x128 ![0, 1, 2] bcast_S1x32x128_S256x32x128_0_1_2 Kf) (segA b P X)) (wrapA b)

include hlt in
theorem backA_apply (n : Fin 10000) (k : Fin 32) (d : Fin 128) :
    backA b P X Kf (ix3 n k d) = Kf (ix3 0 k d) * segA b P X (ix3 ⟨(b (ix1 n)).toNat % 256, Nat.mod_lt _ (by decide)⟩ k d) := by
  unfold backA
  rw [gather_row _ _ n k d ⟨(b (ix1 n)).toNat % 256, Nat.mod_lt _ (by decide)⟩
    (by rw [wrapA_apply b n (hlt n), toInt_small _ (hlt n)]; show _ = ((((b (ix1 n)).toNat % 256 : ℕ)) : Int); rw [Nat.mod_eq_of_lt (hlt n)])]
  generalize segA b P X = S
  pointwise

theorem sumA_apply (G H : FVec Ideal S10000x32x128 .f32) (Y : FVec Ideal S10000x128 .f32) (n : Fin 10000) (d : Fin 128) :
    addf Y (Host.reduceAdd (addf (mulf G (broadcastInDim S10000x32x128 ![0, 1, 2] bcast_S10000x32x1_S10000x32x128_0_1_2 P))
        (mulf H (broadcastInDim S10000x32x128 ![0, 1, 2] bcast_S10000x32x1_S10000x32x128_0_1_2 Q)))
      (constant S_ .f32 0x00000000#32) reducesTo_S10000x32x128_S10000x128_d1 h_S_) (ix2 n d)
      = Y (ix2 n d) + ∑ k : Fin 32, (G (ix3 n k d) * P (ix3 n k 0) + H (ix3 n k d) * Q (ix3 n k 0)) := by
  pointwise

end Arrays

/-! ### The reference's result -/

/-- A sum over the interleaved rows is a sum over pairs of rows. -/
theorem sum_pairs (f : Fin 64 → EReal) : ∑ q, f q = ∑ k : Fin 32, (f ⟨2 * k.val, by omega⟩ + f ⟨2 * k.val + 1, by omega⟩) := by
  rw [← Equiv.sum_comp (finProdFinEquiv (m := 32) (n := 2)) f, Fintype.sum_prod_type]
  refine Finset.sum_congr rfl fun k _ => ?_
  rw [Fin.sum_univ_two]
  refine congrArg₂ (· + ·) (congrArg f (Fin.ext ?_)) (congrArg f (Fin.ext ?_))
  · show 0 + 2 * k.val = 2 * k.val; omega
  · show 1 + 2 * k.val = 2 * k.val + 1; omega

variable (V : Valuation τ sig (Elt Ideal)) (hb : Sorted (V (Proc.devRef .tc main_arg3)))

include hb in
theorem seg_apply (P : FVec Ideal S10000x32x1 .f32) (k : Fin 32) (q : Fin 64) (hP : ∀ n, P (ix3 n k 0) = (dataOf V).co n (coRow q))
    (s : Fin 256) (d : Fin 128) : segA (V (Proc.devRef .tc main_arg3)) P (res_main_v36 V) (ix3 s k d) = (dataOf V).seg q s d := by
  rw [segA_apply]
  refine Finset.sum_congr rfl fun n _ => ?_
  have hn := hb.lt n
  rw [hP, v36_apply, toInt_small _ hn]
  refine if_congr ?_ rfl rfl
  rw [Fin.ext_iff]
  show _ ↔ ((V (Proc.devRef .tc main_arg3) : IVec S10000 32) (ix1 n)).toNat % 256 = s.val
  rw [Nat.mod_eq_of_lt hn]
  exact Int.ofNat_inj

include hb in
theorem v84_apply (n : Fin 10000) (d : Fin 128) :
    (res_main_v84 V : FVec Ideal S10000x128 .f32) (ix2 n d) = (dataOf V).x n d + (dataOf V).agg n d := by
  refine (sumA_apply (res_main_v39 V) (res_main_v42 V)
    (backA (V (Proc.devRef .tc main_arg3)) (res_main_v39 V) (res_main_v36 V) (res_main_v59 V))
    (backA (V (Proc.devRef .tc main_arg3)) (res_main_v42 V) (res_main_v36 V) (res_main_v59 V)) (V (Proc.devRef .tc main_arg0)) n d).trans ?_
  refine congrArg ((dataOf V).x n d + ·) ?_
  unfold Data.agg
  rw [sum_pairs]
  refine Finset.sum_congr rfl fun k _ => ?_
  have e0 : coRow ⟨2 * k.val, by omega⟩ = ⟨k.val, by omega⟩ := Fin.ext (by show 2 * k.val / 2 + 32 * (2 * k.val % 2) = k.val; omega)
  have e1 : coRow ⟨2 * k.val + 1, by omega⟩ = ⟨k.val + 32, by omega⟩ := Fin.ext (by show (2 * k.val + 1) / 2 + 32 * ((2 * k.val + 1) % 2) = k.val + 32; omega)
  have f0 : 2 * k.val / 2 = k.val := by omega
  have f1 : (2 * k.val + 1) / 2 = k.val := by omega
  rw [backA_apply _ hb.lt, backA_apply _ hb.lt,
    seg_apply V hb _ k ⟨2 * k.val, by omega⟩ (fun n => by rw [v39_apply, e0]),
    seg_apply V hb _ k ⟨2 * k.val + 1, by omega⟩ (fun n => by rw [v42_apply, e1]), v59_apply, v39_apply, v42_apply, e0, e1]
  simp only [f0, f1]
  exact congrArg₂ (· + ·) (mul_comm _ _) (mul_comm _ _)

include hb in
/-- The reference's result is what the model says. -/
theorem result_eq : (addf (res_main_v84 V) (siluA (res_main_v95 V)) : FVec Ideal S10000x128 .f32) = fun i => (dataOf V).out (i 0) (i 1) := by
  funext i
  have eta : i = ix2 (i 0) (i 1) := funext fun a => by
    match a with
    | 0 => rfl
    | 1 => rfl
  rw [eta]
  refine (dense_apply (res_main_v84 V) (V (Proc.devRef .tc main_arg10)) (V (Proc.devRef .tc main_arg11)) (i 0) (i 1)).trans ?_
  exact congrArg (fun f => dense (dataOf V).u1 (dataOf V).u2 f (i 1)) (funext fun k => v84_apply V hb (i 0) k)

/-- The reference's result is what the model says, and the arguments are left as they were. -/
theorem value_sorted (m : (ℓ : Loc nD τ sig) → Buf (Elt Ideal) ℓ) (hb : ∀ c : Dev nD, Sorted (m ((c.tc : Thread nD τ).loc main_arg3))) (ρ : Dev nD → PrngReg) :
    θ_run (defs (F := Ideal)) (onTc (main (F := Ideal))) ⟨m, fun _ => 0, ρ⟩ fun r => ∀ c : Dev nD,
      r.2.mem ((c.tc : Thread nD τ).loc main_v103) = (fun i => (dataOf (launchContents m c)).out (i 0) (i 1) : FVec Ideal S10000x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (result_eq (launchContents m c) (hb c)), (h c).2⟩) (Cert.ReferenceIdeal.Value.run m ρ)

end Cert.ReferenceIdeal.Hand
-- ==== Proof.lean ====
/- The claim, put together from the parts in Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.KernelIdeal.Output
public import proofs.«01_k».proof.Proof.RefFrame
public import proofs.«01_k».proof.Proof.RefGather
public import proofs.«01_k».proof.Proof.Sorted
public import Idealize.ShloMosaic.Adequacy
public import Idealize.ShloMosaic.Init

@[expose] public section

noncomputable section

namespace Cert.Proof

open Idealize.ShloMosaic Idealize.SL.Sem

/-- Under the precondition the kernel runs, its arguments end unchanged, and its counters at zero. -/
theorem frame_kernel : Cert.quiescent_Kernel (hKernel := Cert.Kernel.Gen.facts) (hPre_sorted_ids := Cert.Hand.preFacts) := by
  letI := Cert.Hand.preFacts
  intro m g hpre
  exact Cert.Kernel.Hand.frame_sorted m (fun c => Cert.Hand.sorted_of_fn _ _ _ _ _ _ _ _ _ _ _ _ (hpre c)) g

/-- The same of the ideal kernel. -/
theorem frame_ideal : Cert.quiescent_KernelIdeal (hKernelIdeal := Cert.KernelIdeal.Gen.facts) (hPre_sorted_ids := Cert.Hand.preFacts) := by
  letI := Cert.Hand.preFacts
  intro m g hpre
  exact Cert.KernelIdeal.Hand.frame_sorted m (fun c => Cert.Hand.sorted_of_fn _ _ _ _ _ _ _ _ _ _ _ _ (hpre c)) g

/-- The reference runs, its arguments end unchanged, and its counters at zero. -/
theorem frame_reference : Cert.quiescent_ReferenceIdeal (hReferenceIdeal := Cert.ReferenceIdeal.Gen.facts) :=
  fun m g _ => Cert.ReferenceIdeal.Hand.frame m g

/-- The same, with the precondition, which isn't needed. -/
theorem frame_reference_sorted :
    Cert.quiescent_ReferenceIdeal_pre_sorted_ids (hReferenceIdeal := Cert.ReferenceIdeal.Gen.facts) (hPre_sorted_ids := Cert.Hand.preFacts) := by
  letI := Cert.Hand.preFacts
  intro m g _
  exact Cert.ReferenceIdeal.Hand.frame m g

/-- Under the precondition the ideal kernel and the ideal reference leave the same result. -/
theorem same_result : Cert.algebraic_KernelIdeal_ReferenceIdeal (hKernelIdeal := Cert.KernelIdeal.Gen.facts) (hReferenceIdeal := Cert.ReferenceIdeal.Gen.facts)
    (hPre_sorted_ids := Cert.Hand.preFacts) := by
  letI := Cert.Hand.preFacts
  intro m g m' g' hpre hagree
  have hb : ∀ c, Cert.Hand.Sorted (Cert.KernelIdeal.Hand.batchOf m c) := fun c => Cert.Hand.sorted_of_fn _ _ _ _ _ _ _ _ _ _ _ _ (hpre c)
  have hd : ∀ c, Cert.ReferenceIdeal.Hand.dataOf (StableHlo.launchContents m' c) = Cert.KernelIdeal.Hand.dataOf m c := fun c => by
    obtain ⟨h0, h1, h2, h3, h4, h5, h6, h7, h8, h9, h10, h11⟩ := hagree c
    show Cert.Hand.Data.of _ _ _ _ _ _ _ _ _ _ _ _ = Cert.Hand.Data.of _ _ _ _ _ _ _ _ _ _ _ _
    exact congr (congr (congr (congr (congr (congr (congr (congr (congr (congr (congr (congrArg Cert.Hand.Data.of h0) h1) h2) h3) h4) h5) h6) h7) h8) h9) h10) h11
  refine ⟨fun c => Cert.KernelIdeal.Hand.outArr (Cert.KernelIdeal.Hand.dataOf m c), Cert.KernelIdeal.Hand.value_sorted m hb g, ?_⟩
  refine (θ_run Cert.ReferenceIdeal.defs _ _).mono (fun r h c => ⟨(h c).1.trans ?_, (h c).2⟩)
    (Cert.ReferenceIdeal.Hand.value_sorted m' (fun c => (hagree c).2.2.2.1 ▸ hb c) g')
  exact congrArg Cert.KernelIdeal.Hand.outArr (hd c)

/-- The claim. -/
theorem claim : Cert.Claim :=
  ⟨Cert.Kernel.Gen.facts, Cert.KernelIdeal.Gen.facts, Cert.ReferenceIdeal.Gen.facts, Cert.Hand.preFacts,
    frame_kernel, frame_ideal, frame_reference, frame_reference_sorted, trivial, same_result⟩

end Cert.Proof

end
